-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S50000 : Shape := ⟨1, ![50000]⟩
abbrev S2x800000 : Shape := ⟨2, ![2, 800000]⟩
abbrev S800000 : Shape := ⟨1, ![800000]⟩
abbrev S119x64 : Shape := ⟨2, ![119, 64]⟩
abbrev S4x16 : Shape := ⟨2, ![4, 16]⟩
abbrev S80x64 : Shape := ⟨2, ![80, 64]⟩
abbrev S64 : Shape := ⟨1, ![64]⟩
abbrev S144x64 : Shape := ⟨2, ![144, 64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S_ : Shape := ⟨0, ![]⟩

class Facts : Prop where
  slices_S2x800000_S1x800000_0_0 : S2x800000.Slices ![0, 0] S1x800000
  shapeCasts_S1x800000_S800000 : S1x800000.ShapeCasts S800000
  bcast_S_S50000 : S_.BroadcastsInDim S50000 (![] : Fin 0 → Fin S50000.rank)
  reducesTo_S50000_S_d0 : S50000.ReducesTo [0] S_
  h_S_ : 0 < S_.numel
  bcast_S_S800000 : S_.BroadcastsInDim S800000 (![] : Fin 0 → Fin S800000.rank)
  reducesTo_S800000_S_d0 : S800000.ReducesTo [0] S_

variable [Facts]

def fn_part1 {F : FTy → Type} [FloatOps F] (main_arg2 : IVec S800000 32) (main_v14 : IVec S_ 1) (main_v16 : IVec S800000 1) : IVec S_ 1 :=
  let main_c_6 : IVec S_ 32 := constantI S_ 32 4#32
  let main_v17 : IVec S800000 32 := broadcastInDim S800000 ![] bcast_S_S800000 main_c_6
  let main_v18 : IVec S800000 1 := cmpi .slt main_arg2 main_v17
  let main_v19 : IVec S800000 1 := andi main_v16 main_v18
  let main_c_7 : IVec S_ 1 := constantI S_ 1 1#1
  let main_v20 : IVec S_ 1 := (fun x v => Host.reduce IntOp.andi x v reducesTo_S800000_S_d0 h_S_) main_v19 main_c_7
  let main_v21 : IVec S_ 1 := andi main_v14 main_v20
  main_v21

def fn {F : FTy → Type} [FloatOps F] (main_arg0 : IVec S50000 32) (main_arg1 : IVec S2x800000 32) (main_arg2 : IVec S800000 32) (main_arg3 : IVec S50000 32) (main_arg4 : FVec F S119x64 .f32) (main_arg5 : FVec F S4x16 .f32) (main_arg6 : FVec F S80x64 .f32) (main_arg7 : FVec F S64 .f32) (main_arg8 : FVec F S144x64 .f32) (main_arg9 : FVec F S64 .f32) (main_arg10 : FVec F S64x64 .f32) (main_arg11 : FVec F S64 .f32) (main_arg12 : FVec F S64x1 .f32) (main_arg13 : FVec F S1 .f32) : IVec S_ 1 :=
  let main_v0 : IVec S1x800000 32 := (extractStridedSlice S1x800000 ![0, 0] · slices_S2x800000_S1x800000_0_0) main_arg1
  let main_v1 : IVec S800000 32 := shapeCast S800000 main_v0 shapeCasts_S1x800000_S800000
  let main_c : IVec S_ 32 := constantI S_ 32 0#32
  let main_v2 : IVec S50000 32 := broadcastInDim S50000 ![] bcast_S_S50000 main_c
  let main_v3 : IVec S50000 1 := cmpi .sge main_arg0 main_v2
  let main_c_0 : IVec S_ 32 := constantI S_ 32 119#32
  let main_v4 : IVec S50000 32 := broadcastInDim S50000 ![] bcast_S_S50000 main_c_0
  let main_v5 : IVec S50000 1 := cmpi .slt main_arg0 main_v4
  let main_v6 : IVec S50000 1 := andi main_v3 main_v5
  let main_c_1 : IVec S_ 1 := constantI S_ 1 1#1
  let main_v7 : IVec S_ 1 := (fun x v => Host.reduce IntOp.andi x v reducesTo_S50000_S_d0 h_S_) main_v6 main_c_1
  let main_c_2 : IVec S_ 32 := constantI S_ 32 0#32
  let main_v8 : IVec S800000 32 := broadcastInDim S800000 ![] bcast_S_S800000 main_c_2
  let main_v9 : IVec S800000 1 := cmpi .sge main_v1 main_v8
  let main_c_3 : IVec S_ 32 := constantI S_ 32 50000#32
  let main_v10 : IVec S800000 32 := broadcastInDim S800000 ![] bcast_S_S800000 main_c_3
  let main_v11 : IVec S800000 1 := cmpi .slt main_v1 main_v10
  let main_v12 : IVec S800000 1 := andi main_v9 main_v11
  let main_c_4 : IVec S_ 1 := constantI S_ 1 1#1
  let main_v13 : IVec S_ 1 := (fun x v => Host.reduce IntOp.andi x v reducesTo_S800000_S_d0 h_S_) main_v12 main_c_4
  let main_v14 : IVec S_ 1 := andi main_v7 main_v13
  let main_c_5 : IVec S_ 32 := constantI S_ 32 0#32
  let main_v15 : IVec S800000 32 := broadcastInDim S800000 ![] bcast_S_S800000 main_c_5
  let main_v16 : IVec S800000 1 := cmpi .sge main_arg2 main_v15
  fn_part1 (F := F) main_arg2 main_v14 main_v16
-- ==== Kernel.lean ====
abbrev S50000 : Shape := ⟨1, ![50000]⟩
abbrev S2x800000 : Shape := ⟨2, ![2, 800000]⟩
abbrev S800000 : Shape := ⟨1, ![800000]⟩
abbrev S119x64 : Shape := ⟨2, ![119, 64]⟩
abbrev S4x16 : Shape := ⟨2, ![4, 16]⟩
abbrev S80x64 : Shape := ⟨2, ![80, 64]⟩
abbrev S64 : Shape := ⟨1, ![64]⟩
abbrev S144x64 : Shape := ⟨2, ![144, 64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S64x128 : Shape := ⟨2, ![64, 128]⟩
abbrev S119x128 : Shape := ⟨2, ![119, 128]⟩
abbrev S_ : Shape := ⟨0, ![]⟩
abbrev S50000x1 : Shape := ⟨2, ![50000, 1]⟩
abbrev S1x1 : Shape := ⟨2, ![1, 1]⟩
abbrev S50000x128 : Shape := ⟨2, ![50000, 128]⟩
abbrev S50000x64 : Shape := ⟨2, ![50000, 64]⟩
abbrev S16x64 : Shape := ⟨2, ![16, 64]⟩
abbrev S4x64 : Shape := ⟨2, ![4, 64]⟩
abbrev S1x64 : Shape := ⟨2, ![1, 64]⟩
abbrev S800000x1 : Shape := ⟨2, ![800000, 1]⟩
abbrev S800000x64 : Shape := ⟨2, ![800000, 64]⟩
abbrev S1024x64 : Shape := ⟨2, ![1024, 64]⟩
abbrev S1024 : Shape := ⟨1, ![1024]⟩
abbrev S1024x1 : Shape := ⟨2, ![1024, 1]⟩

abbrev nBuf : Space → Nat
  | .hbm => 287
  | .vmem => 6
  | .smem => 0
  | _ => 0

abbrev hbmTy0_0 (i : Nat) : BufTy := match i % 128 with
  | 0 => ⟨S50000, .i32⟩
  | 1 => ⟨S2x800000, .i32⟩
  | 2 => ⟨S800000, .i32⟩
  | 3 => ⟨S50000, .i32⟩
  | 4 => ⟨S119x64, .f32⟩
  | 5 => ⟨S4x16, .f32⟩
  | 6 => ⟨S80x64, .f32⟩
  | 7 => ⟨S64, .f32⟩
  | 8 => ⟨S144x64, .f32⟩
  | 9 => ⟨S64, .f32⟩
  | 10 => ⟨S64x64, .f32⟩
  | 11 => ⟨S64, .f32⟩
  | 12 => ⟨S64x1, .f32⟩
  | 13 => ⟨S1, .f32⟩
  | 14 => ⟨S1x800000, .i32⟩
  | 15 => ⟨S800000, .i32⟩
  | 16 => ⟨S1x800000, .i32⟩
  | 17 => ⟨S800000, .i32⟩
  | 18 => ⟨S64x64, .f32⟩
  | 19 => ⟨S64x64, .f32⟩
  | 20 => ⟨S64x128, .f32⟩
  | 21 => ⟨S119x128, .f32⟩
  | 22 => ⟨S_, .i32⟩
  | 23 => ⟨S50000, .i32⟩
  | 24 => ⟨S50000, .i1⟩
  | 25 => ⟨S_, .i32⟩
  | 26 => ⟨S50000, .i32⟩
  | 27 => ⟨S50000, .i32⟩
  | 28 => ⟨S50000, .i32⟩
  | 29 => ⟨S50000x1, .i32⟩
  | 30 => ⟨S1, .i32⟩
  | 31 => ⟨S_, .i32⟩
  | 32 => ⟨S50000x1, .i32⟩
  | 33 => ⟨S50000x1, .i1⟩
  | 34 => ⟨S1x1, .i32⟩
  | 35 => ⟨S50000x1, .i32⟩
  | 36 => ⟨S50000x1, .i1⟩
  | 37 => ⟨S50000x1, .i1⟩
  | 38 => ⟨S_, .i1⟩
  | 39 => ⟨S50000, .i1⟩
  | 40 => ⟨S50000x128, .f32⟩
  | 41 => ⟨S50000x128, .i1⟩
  | 42 => ⟨S_, .f32⟩
  | 43 => ⟨S50000x128, .f32⟩
  | 44 => ⟨S50000x128, .f32⟩
  | 45 => ⟨S50000x64, .f32⟩
  | 46 => ⟨S50000x64, .f32⟩
  | 47 => ⟨S16x64, .f32⟩
  | 48 => ⟨S4x64, .f32⟩
  | 49 => ⟨S1x64, .f32⟩
  | 50 => ⟨S4x64, .f32⟩
  | 51 => ⟨S4x64, .f32⟩
  | 52 => ⟨S16x64, .f32⟩
  | 53 => ⟨S4x64, .f32⟩
  | 54 => ⟨S1x64, .f32⟩
  | 55 => ⟨S4x64, .f32⟩
  | 56 => ⟨S4x64, .f32⟩
  | 57 => ⟨S64x64, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S1, .i32⟩
  | 67 => ⟨S_, .i32⟩
  | 68 => ⟨S800000x1, .i32⟩
  | 69 => ⟨S800000x1, .i1⟩
  | 70 => ⟨S1x1, .i32⟩
  | 71 => ⟨S800000x1, .i32⟩
  | 72 => ⟨S800000x1, .i1⟩
  | 73 => ⟨S800000x1, .i1⟩
  | 74 => ⟨S_, .i1⟩
  | 75 => ⟨S800000, .i1⟩
  | 76 => ⟨S800000x64, .f32⟩
  | 77 => ⟨S800000x64, .i1⟩
  | 78 => ⟨S_, .f32⟩
  | 79 => ⟨S800000x64, .f32⟩
  | 80 => ⟨S800000x64, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S1, .i32⟩
  | 90 => ⟨S_, .i32⟩
  | 91 => ⟨S800000x1, .i32⟩
  | 92 => ⟨S800000x1, .i1⟩
  | 93 => ⟨S1x1, .i32⟩
  | 94 => ⟨S800000x1, .i32⟩
  | 95 => ⟨S800000x1, .i1⟩
  | 96 => ⟨S800000x1, .i1⟩
  | 97 => ⟨S_, .i1⟩
  | 98 => ⟨S800000, .i1⟩
  | 99 => ⟨S800000x64, .f32⟩
  | 100 => ⟨S800000x64, .i1⟩
  | 101 => ⟨S_, .f32⟩
  | 102 => ⟨S800000x64, .f32⟩
  | 103 => ⟨S800000x64, .f32⟩
  | 104 => ⟨S800000x64, .f32⟩
  | 105 => ⟨S_, .f32⟩
  | 106 => ⟨S800000x64, .f32⟩
  | 107 => ⟨S800000x64, .f32⟩
  | 108 => ⟨S_, .f32⟩
  | 109 => ⟨S50000x64, .f32⟩
  | 110 => ⟨S800000x1, .i32⟩
  | 111 => ⟨S50000x64, .f32⟩
  | 112 => ⟨S50000x64, .f32⟩
  | 113 => ⟨S50000x64, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S1, .i32⟩
  | 123 => ⟨S_, .i32⟩
  | 124 => ⟨S800000x1, .i32⟩
  | 125 => ⟨S800000x1, .i1⟩
  | 126 => ⟨S1x1, .i32⟩
  | 127 => ⟨S800000x1, .i32⟩
  | _ => ⟨S50000, .i32⟩

abbrev hbmTy0_1 (i : Nat) : BufTy := match i % 128 with
  | 0 => ⟨S800000x1, .i1⟩
  | 1 => ⟨S800000x1, .i1⟩
  | 2 => ⟨S_, .i1⟩
  | 3 => ⟨S800000, .i1⟩
  | 4 => ⟨S800000x64, .f32⟩
  | 5 => ⟨S800000x64, .i1⟩
  | 6 => ⟨S_, .f32⟩
  | 7 => ⟨S800000x64, .f32⟩
  | 8 => ⟨S800000x64, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S1, .i32⟩
  | 18 => ⟨S_, .i32⟩
  | 19 => ⟨S800000x1, .i32⟩
  | 20 => ⟨S800000x1, .i1⟩
  | 21 => ⟨S1x1, .i32⟩
  | 22 => ⟨S800000x1, .i32⟩
  | 23 => ⟨S800000x1, .i1⟩
  | 24 => ⟨S800000x1, .i1⟩
  | 25 => ⟨S_, .i1⟩
  | 26 => ⟨S800000, .i1⟩
  | 27 => ⟨S800000x64, .f32⟩
  | 28 => ⟨S800000x64, .i1⟩
  | 29 => ⟨S_, .f32⟩
  | 30 => ⟨S800000x64, .f32⟩
  | 31 => ⟨S800000x64, .f32⟩
  | 32 => ⟨S800000x64, .f32⟩
  | 33 => ⟨S_, .f32⟩
  | 34 => ⟨S800000x64, .f32⟩
  | 35 => ⟨S800000x64, .f32⟩
  | 36 => ⟨S_, .f32⟩
  | 37 => ⟨S50000x64, .f32⟩
  | 38 => ⟨S800000x1, .i32⟩
  | 39 => ⟨S50000x64, .f32⟩
  | 40 => ⟨S50000x64, .f32⟩
  | 41 => ⟨S50000x64, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S1, .i32⟩
  | 51 => ⟨S_, .i32⟩
  | 52 => ⟨S800000x1, .i32⟩
  | 53 => ⟨S800000x1, .i1⟩
  | 54 => ⟨S1x1, .i32⟩
  | 55 => ⟨S800000x1, .i32⟩
  | 56 => ⟨S800000x1, .i1⟩
  | 57 => ⟨S800000x1, .i1⟩
  | 58 => ⟨S_, .i1⟩
  | 59 => ⟨S800000, .i1⟩
  | 60 => ⟨S800000x64, .f32⟩
  | 61 => ⟨S800000x64, .i1⟩
  | 62 => ⟨S_, .f32⟩
  | 63 => ⟨S800000x64, .f32⟩
  | 64 => ⟨S800000x64, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S1, .i32⟩
  | 74 => ⟨S_, .i32⟩
  | 75 => ⟨S800000x1, .i32⟩
  | 76 => ⟨S800000x1, .i1⟩
  | 77 => ⟨S1x1, .i32⟩
  | 78 => ⟨S800000x1, .i32⟩
  | 79 => ⟨S800000x1, .i1⟩
  | 80 => ⟨S800000x1, .i1⟩
  | 81 => ⟨S_, .i1⟩
  | 82 => ⟨S800000, .i1⟩
  | 83 => ⟨S800000x64, .f32⟩
  | 84 => ⟨S800000x64, .i1⟩
  | 85 => ⟨S_, .f32⟩
  | 86 => ⟨S800000x64, .f32⟩
  | 87 => ⟨S800000x64, .f32⟩
  | 88 => ⟨S800000x64, .f32⟩
  | 89 => ⟨S_, .f32⟩
  | 90 => ⟨S800000x64, .f32⟩
  | 91 => ⟨S800000x64, .f32⟩
  | 92 => ⟨S_, .f32⟩
  | 93 => ⟨S50000x64, .f32⟩
  | 94 => ⟨S800000x1, .i32⟩
  | 95 => ⟨S50000x64, .f32⟩
  | 96 => ⟨S50000x64, .f32⟩
  | 97 => ⟨S50000x64, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S1, .i32⟩
  | 107 => ⟨S_, .i32⟩
  | 108 => ⟨S800000x1, .i32⟩
  | 109 => ⟨S800000x1, .i1⟩
  | 110 => ⟨S1x1, .i32⟩
  | 111 => ⟨S800000x1, .i32⟩
  | 112 => ⟨S800000x1, .i1⟩
  | 113 => ⟨S800000x1, .i1⟩
  | 114 => ⟨S_, .i1⟩
  | 115 => ⟨S800000, .i1⟩
  | 116 => ⟨S800000x64, .f32⟩
  | 117 => ⟨S800000x64, .i1⟩
  | 118 => ⟨S_, .f32⟩
  | 119 => ⟨S800000x64, .f32⟩
  | 120 => ⟨S800000x64, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000, .i32⟩

abbrev hbmTy0_2 (i : Nat) : BufTy := match i % 128 with
  | 0 => ⟨S800000x1, .i32⟩
  | 1 => ⟨S1, .i32⟩
  | 2 => ⟨S_, .i32⟩
  | 3 => ⟨S800000x1, .i32⟩
  | 4 => ⟨S800000x1, .i1⟩
  | 5 => ⟨S1x1, .i32⟩
  | 6 => ⟨S800000x1, .i32⟩
  | 7 => ⟨S800000x1, .i1⟩
  | 8 => ⟨S800000x1, .i1⟩
  | 9 => ⟨S_, .i1⟩
  | 10 => ⟨S800000, .i1⟩
  | 11 => ⟨S800000x64, .f32⟩
  | 12 => ⟨S800000x64, .i1⟩
  | 13 => ⟨S_, .f32⟩
  | 14 => ⟨S800000x64, .f32⟩
  | 15 => ⟨S800000x64, .f32⟩
  | 16 => ⟨S800000x64, .f32⟩
  | 17 => ⟨S_, .f32⟩
  | 18 => ⟨S800000x64, .f32⟩
  | 19 => ⟨S800000x64, .f32⟩
  | 20 => ⟨S_, .f32⟩
  | 21 => ⟨S50000x64, .f32⟩
  | 22 => ⟨S800000x1, .i32⟩
  | 23 => ⟨S50000x64, .f32⟩
  | 24 => ⟨S50000x64, .f32⟩
  | 25 => ⟨S50000x64, .f32⟩
  | 26 => ⟨S_, .f32⟩
  | 27 => ⟨S1024x64, .f32⟩
  | 28 => ⟨S50000x1, .i32⟩
  | 29 => ⟨S1024x64, .f32⟩
  | 30 => ⟨S1024, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | .local _ .vmem, ⟨0, _⟩ => ⟨S1024x64, .f32⟩
  | .local _ .vmem, ⟨1, _⟩ => ⟨S64x64, .f32⟩
  | .local _ .vmem, ⟨2, _⟩ => ⟨S64, .f32⟩
  | .local _ .vmem, ⟨3, _⟩ => ⟨S64x1, .f32⟩
  | .local _ .vmem, ⟨4, _⟩ => ⟨S1, .f32⟩
  | .local _ .vmem, ⟨5, _⟩ => ⟨S1024, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v22 : Ref sig .tc := ⟨.hbm, 80, rfl⟩
abbrev main_call2_c : Ref sig .tc := ⟨.hbm, 81, rfl⟩
abbrev main_call2_v0 : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_c_1 : Ref sig .tc := ⟨.hbm, 89, rfl⟩
abbrev main_call2_c_2 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_3 : Ref sig .tc := ⟨.hbm, 97, rfl⟩
abbrev main_call2_v12 : Ref sig .tc := ⟨.hbm, 98, rfl⟩
abbrev main_call2_v13 : Ref sig .tc := ⟨.hbm, 99, rfl⟩
abbrev main_call2_v14 : Ref sig .tc := ⟨.hbm, 100, rfl⟩
abbrev main_call2_cst : Ref sig .tc := ⟨.hbm, 101, rfl⟩
abbrev main_call2_v15 : Ref sig .tc := ⟨.hbm, 102, rfl⟩
abbrev main_v23 : Ref sig .tc := ⟨.hbm, 103, rfl⟩
abbrev main_v24 : Ref sig .tc := ⟨.hbm, 104, rfl⟩
abbrev main_cst : Ref sig .tc := ⟨.hbm, 105, rfl⟩
abbrev main_v25 : Ref sig .tc := ⟨.hbm, 106, rfl⟩
abbrev main_v26 : Ref sig .tc := ⟨.hbm, 107, rfl⟩
abbrev main_cst_0 : Ref sig .tc := ⟨.hbm, 108, rfl⟩
abbrev main_v27 : Ref sig .tc := ⟨.hbm, 109, rfl⟩
abbrev main_v28 : Ref sig .tc := ⟨.hbm, 110, rfl⟩
abbrev main_v29 : Ref sig .tc := ⟨.hbm, 111, rfl⟩
abbrev main_v30 : Ref sig .tc := ⟨.hbm, 112, rfl⟩
abbrev main_v31 : Ref sig .tc := ⟨.hbm, 113, rfl⟩
abbrev main_call3_c : Ref sig .tc := ⟨.hbm, 114, rfl⟩
abbrev main_call3_v0 : Ref sig .tc := ⟨.hbm, 115, rfl⟩
abbrev main_call3_v1 : Ref sig .tc := ⟨.hbm, 116, rfl⟩
abbrev main_call3_c_0 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_c_1 : Ref sig .tc := ⟨.hbm, 122, rfl⟩
abbrev main_call3_c_2 : Ref sig .tc := ⟨.hbm, 123, rfl⟩
abbrev main_call3_v6 : Ref sig .tc := ⟨.hbm, 124, rfl⟩
abbrev main_call3_v7 : Ref sig .tc := ⟨.hbm, 125, rfl⟩
abbrev main_call3_v8 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_c_3 : Ref sig .tc := ⟨.hbm, 130, rfl⟩
abbrev main_call3_v12 : Ref sig .tc := ⟨.hbm, 131, rfl⟩
abbrev main_call3_v13 : Ref sig .tc := ⟨.hbm, 132, rfl⟩
abbrev main_call3_v14 : Ref sig .tc := ⟨.hbm, 133, rfl⟩
abbrev main_call3_cst : Ref sig .tc := ⟨.hbm, 134, rfl⟩
abbrev main_call3_v15 : Ref sig .tc := ⟨.hbm, 135, rfl⟩
abbrev main_v32 : Ref sig .tc := ⟨.hbm, 136, rfl⟩
abbrev main_call4_c : Ref sig .tc := ⟨.hbm, 137, rfl⟩
abbrev main_call4_v0 : Ref sig .tc := ⟨.hbm, 138, rfl⟩
abbrev main_call4_v1 : Ref sig .tc := ⟨.hbm, 139, rfl⟩
abbrev main_call4_c_0 : Ref sig .tc := ⟨.hbm, 140, rfl⟩
abbrev main_call4_v2 : Ref sig .tc := ⟨.hbm, 141, rfl⟩
abbrev main_call4_v3 : Ref sig .tc := ⟨.hbm, 142, rfl⟩
abbrev main_call4_v4 : Ref sig .tc := ⟨.hbm, 143, rfl⟩
abbrev main_call4_v5 : Ref sig .tc := ⟨.hbm, 144, rfl⟩
abbrev main_call4_c_1 : Ref sig .tc := ⟨.hbm, 145, rfl⟩
abbrev main_call4_c_2 : Ref sig .tc := ⟨.hbm, 146, rfl⟩
abbrev main_call4_v6 : Ref sig .tc := ⟨.hbm, 147, rfl⟩
abbrev main_call4_v7 : Ref sig .tc := ⟨.hbm, 148, rfl⟩
abbrev main_call4_v8 : Ref sig .tc := ⟨.hbm, 149, rfl⟩
abbrev main_call4_v9 : Ref sig .tc := ⟨.hbm, 150, rfl⟩
abbrev main_call4_v10 : Ref sig .tc := ⟨.hbm, 151, rfl⟩
abbrev main_call4_v11 : Ref sig .tc := ⟨.hbm, 152, rfl⟩
abbrev main_call4_c_3 : Ref sig .tc := ⟨.hbm, 153, rfl⟩
abbrev main_call4_v12 : Ref sig .tc := ⟨.hbm, 154, rfl⟩
abbrev main_call4_v13 : Ref sig .tc := ⟨.hbm, 155, rfl⟩
abbrev main_call4_v14 : Ref sig .tc := ⟨.hbm, 156, rfl⟩
abbrev main_call4_cst : Ref sig .tc := ⟨.hbm, 157, rfl⟩
abbrev main_call4_v15 : Ref sig .tc := ⟨.hbm, 158, rfl⟩
abbrev main_v33 : Ref sig .tc := ⟨.hbm, 159, rfl⟩
abbrev main_v34 : Ref sig .tc := ⟨.hbm, 160, rfl⟩
abbrev main_cst_1 : Ref sig .tc := ⟨.hbm, 161, rfl⟩
abbrev main_v35 : Ref sig .tc := ⟨.hbm, 162, rfl⟩
abbrev main_v36 : Ref sig .tc := ⟨.hbm, 163, rfl⟩
abbrev main_cst_2 : Ref sig .tc := ⟨.hbm, 164, rfl⟩
abbrev main_v37 : Ref sig .tc := ⟨.hbm, 165, rfl⟩
abbrev main_v38 : Ref sig .tc := ⟨.hbm, 166, rfl⟩
abbrev main_v39 : Ref sig .tc := ⟨.hbm, 167, rfl⟩
abbrev main_v40 : Ref sig .tc := ⟨.hbm, 168, rfl⟩
abbrev main_v41 : Ref sig .tc := ⟨.hbm, 169, rfl⟩
abbrev main_call5_c : Ref sig .tc := ⟨.hbm, 170, rfl⟩
abbrev main_call5_v0 : Ref sig .tc := ⟨.hbm, 171, rfl⟩
abbrev main_call5_v1 : Ref sig .tc := ⟨.hbm, 172, rfl⟩
abbrev main_call5_c_0 : Ref sig .tc := ⟨.hbm, 173, rfl⟩
abbrev main_call5_v2 : Ref sig .tc := ⟨.hbm, 174, rfl⟩
abbrev main_call5_v3 : Ref sig .tc := ⟨.hbm, 175, rfl⟩
abbrev main_call5_v4 : Ref sig .tc := ⟨.hbm, 176, rfl⟩
abbrev main_call5_v5 : Ref sig .tc := ⟨.hbm, 177, rfl⟩
abbrev main_call5_c_1 : Ref sig .tc := ⟨.hbm, 178, rfl⟩
abbrev main_call5_c_2 : Ref sig .tc := ⟨.hbm, 179, rfl⟩
abbrev main_call5_v6 : Ref sig .tc := ⟨.hbm, 180, rfl⟩
abbrev main_call5_v7 : Ref sig .tc := ⟨.hbm, 181, rfl⟩
abbrev main_call5_v8 : Ref sig .tc := ⟨.hbm, 182, rfl⟩
abbrev main_call5_v9 : Ref sig .tc := ⟨.hbm, 183, rfl⟩
abbrev main_call5_v10 : Ref sig .tc := ⟨.hbm, 184, rfl⟩
abbrev main_call5_v11 : Ref sig .tc := ⟨.hbm, 185, rfl⟩
abbrev main_call5_c_3 : Ref sig .tc := ⟨.hbm, 186, rfl⟩
abbrev main_call5_v12 : Ref sig .tc := ⟨.hbm, 187, rfl⟩
abbrev main_call5_v13 : Ref sig .tc := ⟨.hbm, 188, rfl⟩
abbrev main_call5_v14 : Ref sig .tc := ⟨.hbm, 189, rfl⟩
abbrev main_call5_cst : Ref sig .tc := ⟨.hbm, 190, rfl⟩
abbrev main_call5_v15 : Ref sig .tc := ⟨.hbm, 191, rfl⟩
abbrev main_v42 : Ref sig .tc := ⟨.hbm, 192, rfl⟩
abbrev main_call6_c : Ref sig .tc := ⟨.hbm, 193, rfl⟩
abbrev main_call6_v0 : Ref sig .tc := ⟨.hbm, 194, rfl⟩
abbrev main_call6_v1 : Ref sig .tc := ⟨.hbm, 195, rfl⟩
abbrev main_call6_c_0 : Ref sig .tc := ⟨.hbm, 196, rfl⟩
abbrev main_call6_v2 : Ref sig .tc := ⟨.hbm, 197, rfl⟩
abbrev main_call6_v3 : Ref sig .tc := ⟨.hbm, 198, rfl⟩
abbrev main_call6_v4 : Ref sig .tc := ⟨.hbm, 199, rfl⟩
abbrev main_call6_v5 : Ref sig .tc := ⟨.hbm, 200, rfl⟩
abbrev main_call6_c_1 : Ref sig .tc := ⟨.hbm, 201, rfl⟩
abbrev main_call6_c_2 : Ref sig .tc := ⟨.hbm, 202, rfl⟩
abbrev main_call6_v6 : Ref sig .tc := ⟨.hbm, 203, rfl⟩
abbrev main_call6_v7 : Ref sig .tc := ⟨.hbm, 204, rfl⟩
abbrev main_call6_v8 : Ref sig .tc := ⟨.hbm, 205, rfl⟩
abbrev main_call6_v9 : Ref sig .tc := ⟨.hbm, 206, rfl⟩
abbrev main_call6_v10 : Ref sig .tc := ⟨.hbm, 207, rfl⟩
abbrev main_call6_v11 : Ref sig .tc := ⟨.hbm, 208, rfl⟩
abbrev main_call6_c_3 : Ref sig .tc := ⟨.hbm, 209, rfl⟩
abbrev main_call6_v12 : Ref sig .tc := ⟨.hbm, 210, rfl⟩
abbrev main_call6_v13 : Ref sig .tc := ⟨.hbm, 211, rfl⟩
abbrev main_call6_v14 : Ref sig .tc := ⟨.hbm, 212, rfl⟩
abbrev main_call6_cst : Ref sig .tc := ⟨.hbm, 213, rfl⟩
abbrev main_call6_v15 : Ref sig .tc := ⟨.hbm, 214, rfl⟩
abbrev main_v43 : Ref sig .tc := ⟨.hbm, 215, rfl⟩
abbrev main_v44 : Ref sig .tc := ⟨.hbm, 216, rfl⟩
abbrev main_cst_3 : Ref sig .tc := ⟨.hbm, 217, rfl⟩
abbrev main_v45 : Ref sig .tc := ⟨.hbm, 218, rfl⟩
abbrev main_v46 : Ref sig .tc := ⟨.hbm, 219, rfl⟩
abbrev main_cst_4 : Ref sig .tc := ⟨.hbm, 220, rfl⟩
abbrev main_v47 : Ref sig .tc := ⟨.hbm, 221, rfl⟩
abbrev main_v48 : Ref sig .tc := ⟨.hbm, 222, rfl⟩
abbrev main_v49 : Ref sig .tc := ⟨.hbm, 223, rfl⟩
abbrev main_v50 : Ref sig .tc := ⟨.hbm, 224, rfl⟩
abbrev main_v51 : Ref sig .tc := ⟨.hbm, 225, rfl⟩
abbrev main_call7_c : Ref sig .tc := ⟨.hbm, 226, rfl⟩
abbrev main_call7_v0 : Ref sig .tc := ⟨.hbm, 227, rfl⟩
abbrev main_call7_v1 : Ref sig .tc := ⟨.hbm, 228, rfl⟩
abbrev main_call7_c_0 : Ref sig .tc := ⟨.hbm, 229, rfl⟩
abbrev main_call7_v2 : Ref sig .tc := ⟨.hbm, 230, rfl⟩
abbrev main_call7_v3 : Ref sig .tc := ⟨.hbm, 231, rfl⟩
abbrev main_call7_v4 : Ref sig .tc := ⟨.hbm, 232, rfl⟩
abbrev main_call7_v5 : Ref sig .tc := ⟨.hbm, 233, rfl⟩
abbrev main_call7_c_1 : Ref sig .tc := ⟨.hbm, 234, rfl⟩
abbrev main_call7_c_2 : Ref sig .tc := ⟨.hbm, 235, rfl⟩
abbrev main_call7_v6 : Ref sig .tc := ⟨.hbm, 236, rfl⟩
abbrev main_call7_v7 : Ref sig .tc := ⟨.hbm, 237, rfl⟩
abbrev main_call7_v8 : Ref sig .tc := ⟨.hbm, 238, rfl⟩
abbrev main_call7_v9 : Ref sig .tc := ⟨.hbm, 239, rfl⟩
abbrev main_call7_v10 : Ref sig .tc := ⟨.hbm, 240, rfl⟩
abbrev main_call7_v11 : Ref sig .tc := ⟨.hbm, 241, rfl⟩
abbrev main_call7_c_3 : Ref sig .tc := ⟨.hbm, 242, rfl⟩
abbrev main_call7_v12 : Ref sig .tc := ⟨.hbm, 243, rfl⟩
abbrev main_call7_v13 : Ref sig .tc := ⟨.hbm, 244, rfl⟩
abbrev main_call7_v14 : Ref sig .tc := ⟨.hbm, 245, rfl⟩
abbrev main_call7_cst : Ref sig .tc := ⟨.hbm, 246, rfl⟩
abbrev main_call7_v15 : Ref sig .tc := ⟨.hbm, 247, rfl⟩
abbrev main_v52 : Ref sig .tc := ⟨.hbm, 248, rfl⟩
abbrev main_call8_c : Ref sig .tc := ⟨.hbm, 249, rfl⟩
abbrev main_call8_v0 : Ref sig .tc := ⟨.hbm, 250, rfl⟩
abbrev main_call8_v1 : Ref sig .tc := ⟨.hbm, 251, rfl⟩
abbrev main_call8_c_0 : Ref sig .tc := ⟨.hbm, 252, rfl⟩
abbrev main_call8_v2 : Ref sig .tc := ⟨.hbm, 253, rfl⟩
abbrev main_call8_v3 : Ref sig .tc := ⟨.hbm, 254, rfl⟩
abbrev main_call8_v4 : Ref sig .tc := ⟨.hbm, 255, rfl⟩
abbrev main_call8_v5 : Ref sig .tc := ⟨.hbm, 256, rfl⟩
abbrev main_call8_c_1 : Ref sig .tc := ⟨.hbm, 257, rfl⟩
abbrev main_call8_c_2 : Ref sig .tc := ⟨.hbm, 258, rfl⟩
abbrev main_call8_v6 : Ref sig .tc := ⟨.hbm, 259, rfl⟩
abbrev main_call8_v7 : Ref sig .tc := ⟨.hbm, 260, rfl⟩
abbrev main_call8_v8 : Ref sig .tc := ⟨.hbm, 261, rfl⟩
abbrev main_call8_v9 : Ref sig .tc := ⟨.hbm, 262, rfl⟩
abbrev main_call8_v10 : Ref sig .tc := ⟨.hbm, 263, rfl⟩
abbrev main_call8_v11 : Ref sig .tc := ⟨.hbm, 264, rfl⟩
abbrev main_call8_c_3 : Ref sig .tc := ⟨.hbm, 265, rfl⟩
abbrev main_call8_v12 : Ref sig .tc := ⟨.hbm, 266, rfl⟩
abbrev main_call8_v13 : Ref sig .tc := ⟨.hbm, 267, rfl⟩
abbrev main_call8_v14 : Ref sig .tc := ⟨.hbm, 268, rfl⟩
abbrev main_call8_cst : Ref sig .tc := ⟨.hbm, 269, rfl⟩
abbrev main_call8_v15 : Ref sig .tc := ⟨.hbm, 270, rfl⟩
abbrev main_v53 : Ref sig .tc := ⟨.hbm, 271, rfl⟩
abbrev main_v54 : Ref sig .tc := ⟨.hbm, 272, rfl⟩
abbrev main_cst_5 : Ref sig .tc := ⟨.hbm, 273, rfl⟩
abbrev main_v55 : Ref sig .tc := ⟨.hbm, 274, rfl⟩
abbrev main_v56 : Ref sig .tc := ⟨.hbm, 275, rfl⟩
abbrev main_cst_6 : Ref sig .tc := ⟨.hbm, 276, rfl⟩
abbrev main_v57 : Ref sig .tc := ⟨.hbm, 277, rfl⟩
abbrev main_v58 : Ref sig .tc := ⟨.hbm, 278, rfl⟩
abbrev main_v59 : Ref sig .tc := ⟨.hbm, 279, rfl⟩
abbrev main_v60 : Ref sig .tc := ⟨.hbm, 280, rfl⟩
abbrev main_v61 : Ref sig .tc := ⟨.hbm, 281, rfl⟩
abbrev main_cst_7 : Ref sig .tc := ⟨.hbm, 282, rfl⟩
abbrev main_v62 : Ref sig .tc := ⟨.hbm, 283, rfl⟩
abbrev main_v63 : Ref sig .tc := ⟨.hbm, 284, rfl⟩
abbrev main_v64 : Ref sig .tc := ⟨.hbm, 285, rfl⟩
abbrev main_v65 : Ref sig .tc := ⟨.hbm, 286, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S50000 : Shape := ⟨1, ![50000]⟩
abbrev S2x800000 : Shape := ⟨2, ![2, 800000]⟩
abbrev S800000 : Shape := ⟨1, ![800000]⟩
abbrev S119x64 : Shape := ⟨2, ![119, 64]⟩
abbrev S4x16 : Shape := ⟨2, ![4, 16]⟩
abbrev S80x64 : Shape := ⟨2, ![80, 64]⟩
abbrev S64 : Shape := ⟨1, ![64]⟩
abbrev S144x64 : Shape := ⟨2, ![144, 64]⟩
abbrev S64x64 : Shape := ⟨2, ![64, 64]⟩
abbrev S64x1 : Shape := ⟨2, ![64, 1]⟩
abbrev S1 : Shape := ⟨1, ![1]⟩
abbrev S_ : Shape := ⟨0, ![]⟩
abbrev S50000x1 : Shape := ⟨2, ![50000, 1]⟩
abbrev S1x1 : Shape := ⟨2, ![1, 1]⟩
abbrev S50000x64 : Shape := ⟨2, ![50000, 64]⟩
abbrev S800000x1 : Shape := ⟨2, ![800000, 1]⟩
abbrev S800000x16 : Shape := ⟨2, ![800000, 16]⟩
abbrev S1x800000 : Shape := ⟨2, ![1, 800000]⟩
abbrev S800000x64 : Shape := ⟨2, ![800000, 64]⟩
abbrev S800000x80 : Shape := ⟨2, ![800000, 80]⟩
abbrev S1x64 : Shape := ⟨2, ![1, 64]⟩
abbrev S800000x144 : Shape := ⟨2, ![800000, 144]⟩
abbrev S1024x64 : Shape := ⟨2, ![1024, 64]⟩
abbrev S1024x1 : Shape := ⟨2, ![1024, 1]⟩
abbrev S1024 : Shape := ⟨1, ![1024]⟩

abbrev nBuf : Space → Nat
  | .hbm => 220
  | .vmem => 0
  | .smem => 0
  | _ => 0

abbrev hbmTy0_0 (i : Nat) : BufTy := match i % 128 with
  | 0 => ⟨S50000, .i32⟩
  | 1 => ⟨S2x800000, .i32⟩
  | 2 => ⟨S800000, .i32⟩
  | 3 => ⟨S50000, .i32⟩
  | 4 => ⟨S119x64, .f32⟩
  | 5 => ⟨S4x16, .f32⟩
  | 6 => ⟨S80x64, .f32⟩
  | 7 => ⟨S64, .f32⟩
  | 8 => ⟨S144x64, .f32⟩
  | 9 => ⟨S64, .f32⟩
  | 10 => ⟨S64x64, .f32⟩
  | 11 => ⟨S64, .f32⟩
  | 12 => ⟨S64x1, .f32⟩
  | 13 => ⟨S1, .f32⟩
  | 14 => ⟨S_, .i32⟩
  | 15 => ⟨S50000, .i32⟩
  | 16 => ⟨S50000, .i1⟩
  | 17 => ⟨S_, .i32⟩
  | 18 => ⟨S50000, .i32⟩
  | 19 => ⟨S50000, .i32⟩
  | 20 => ⟨S50000, .i32⟩
  | 21 => ⟨S50000x1, .i32⟩
  | 22 => ⟨S1, .i32⟩
  | 23 => ⟨S_, .i32⟩
  | 24 => ⟨S50000x1, .i32⟩
  | 25 => ⟨S50000x1, .i1⟩
  | 26 => ⟨S1x1, .i32⟩
  | 27 => ⟨S50000x1, .i32⟩
  | 28 => ⟨S50000x1, .i1⟩
  | 29 => ⟨S50000x1, .i1⟩
  | 30 => ⟨S_, .i1⟩
  | 31 => ⟨S50000, .i1⟩
  | 32 => ⟨S50000x64, .f32⟩
  | 33 => ⟨S50000x64, .i1⟩
  | 34 => ⟨S_, .f32⟩
  | 35 => ⟨S50000x64, .f32⟩
  | 36 => ⟨S50000x64, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S1, .i32⟩
  | 46 => ⟨S_, .i32⟩
  | 47 => ⟨S800000x1, .i32⟩
  | 48 => ⟨S800000x1, .i1⟩
  | 49 => ⟨S1x1, .i32⟩
  | 50 => ⟨S800000x1, .i32⟩
  | 51 => ⟨S800000x1, .i1⟩
  | 52 => ⟨S800000x1, .i1⟩
  | 53 => ⟨S_, .i1⟩
  | 54 => ⟨S800000, .i1⟩
  | 55 => ⟨S800000x16, .f32⟩
  | 56 => ⟨S800000x16, .i1⟩
  | 57 => ⟨S_, .f32⟩
  | 58 => ⟨S800000x16, .f32⟩
  | 59 => ⟨S800000x16, .f32⟩
  | 60 => ⟨S1x800000, .i32⟩
  | 61 => ⟨S800000, .i32⟩
  | 62 => ⟨S1x800000, .i32⟩
  | 63 => ⟨S800000, .i32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S1, .i32⟩
  | 73 => ⟨S_, .i32⟩
  | 74 => ⟨S800000x1, .i32⟩
  | 75 => ⟨S800000x1, .i1⟩
  | 76 => ⟨S1x1, .i32⟩
  | 77 => ⟨S800000x1, .i32⟩
  | 78 => ⟨S800000x1, .i1⟩
  | 79 => ⟨S800000x1, .i1⟩
  | 80 => ⟨S_, .i1⟩
  | 81 => ⟨S800000, .i1⟩
  | 82 => ⟨S800000x64, .f32⟩
  | 83 => ⟨S800000x64, .i1⟩
  | 84 => ⟨S_, .f32⟩
  | 85 => ⟨S800000x64, .f32⟩
  | 86 => ⟨S800000x64, .f32⟩
  | 87 => ⟨S800000x80, .f32⟩
  | 88 => ⟨S800000x64, .f32⟩
  | 89 => ⟨S1x64, .f32⟩
  | 90 => ⟨S800000x64, .f32⟩
  | 91 => ⟨S800000x64, .f32⟩
  | 92 => ⟨S_, .f32⟩
  | 93 => ⟨S800000x64, .f32⟩
  | 94 => ⟨S800000x64, .f32⟩
  | 95 => ⟨S_, .f32⟩
  | 96 => ⟨S50000x64, .f32⟩
  | 97 => ⟨S800000x1, .i32⟩
  | 98 => ⟨S50000x64, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S1, .i32⟩
  | 108 => ⟨S_, .i32⟩
  | 109 => ⟨S800000x1, .i32⟩
  | 110 => ⟨S800000x1, .i1⟩
  | 111 => ⟨S1x1, .i32⟩
  | 112 => ⟨S800000x1, .i32⟩
  | 113 => ⟨S800000x1, .i1⟩
  | 114 => ⟨S800000x1, .i1⟩
  | 115 => ⟨S_, .i1⟩
  | 116 => ⟨S800000, .i1⟩
  | 117 => ⟨S800000x64, .f32⟩
  | 118 => ⟨S800000x64, .i1⟩
  | 119 => ⟨S_, .f32⟩
  | 120 => ⟨S800000x64, .f32⟩
  | 121 => ⟨S800000x64, .f32⟩
  | 122 => ⟨S800000x144, .f32⟩
  | 123 => ⟨S800000x64, .f32⟩
  | 124 => ⟨S1x64, .f32⟩
  | 125 => ⟨S800000x64, .f32⟩
  | 126 => ⟨S800000x64, .f32⟩
  | 127 => ⟨S_, .f32⟩
  | _ => ⟨S50000, .i32⟩

abbrev hbmTy0_1 (i : Nat) : BufTy := match i % 128 with
  | 0 => ⟨S800000x64, .f32⟩
  | 1 => ⟨S800000x64, .f32⟩
  | 2 => ⟨S_, .f32⟩
  | 3 => ⟨S50000x64, .f32⟩
  | 4 => ⟨S800000x1, .i32⟩
  | 5 => ⟨S50000x64, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S1, .i32⟩
  | 15 => ⟨S_, .i32⟩
  | 16 => ⟨S800000x1, .i32⟩
  | 17 => ⟨S800000x1, .i1⟩
  | 18 => ⟨S1x1, .i32⟩
  | 19 => ⟨S800000x1, .i32⟩
  | 20 => ⟨S800000x1, .i1⟩
  | 21 => ⟨S800000x1, .i1⟩
  | 22 => ⟨S_, .i1⟩
  | 23 => ⟨S800000, .i1⟩
  | 24 => ⟨S800000x64, .f32⟩
  | 25 => ⟨S800000x64, .i1⟩
  | 26 => ⟨S_, .f32⟩
  | 27 => ⟨S800000x64, .f32⟩
  | 28 => ⟨S800000x64, .f32⟩
  | 29 => ⟨S800000x144, .f32⟩
  | 30 => ⟨S800000x64, .f32⟩
  | 31 => ⟨S1x64, .f32⟩
  | 32 => ⟨S800000x64, .f32⟩
  | 33 => ⟨S800000x64, .f32⟩
  | 34 => ⟨S_, .f32⟩
  | 35 => ⟨S800000x64, .f32⟩
  | 36 => ⟨S800000x64, .f32⟩
  | 37 => ⟨S_, .f32⟩
  | 38 => ⟨S50000x64, .f32⟩
  | 39 => ⟨S800000x1, .i32⟩
  | 40 => ⟨S50000x64, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S1, .i32⟩
  | 50 => ⟨S_, .i32⟩
  | 51 => ⟨S800000x1, .i32⟩
  | 52 => ⟨S800000x1, .i1⟩
  | 53 => ⟨S1x1, .i32⟩
  | 54 => ⟨S800000x1, .i32⟩
  | 55 => ⟨S800000x1, .i1⟩
  | 56 => ⟨S800000x1, .i1⟩
  | 57 => ⟨S_, .i1⟩
  | 58 => ⟨S800000, .i1⟩
  | 59 => ⟨S800000x64, .f32⟩
  | 60 => ⟨S800000x64, .i1⟩
  | 61 => ⟨S_, .f32⟩
  | 62 => ⟨S800000x64, .f32⟩
  | 63 => ⟨S800000x64, .f32⟩
  | 64 => ⟨S800000x144, .f32⟩
  | 65 => ⟨S800000x64, .f32⟩
  | 66 => ⟨S1x64, .f32⟩
  | 67 => ⟨S800000x64, .f32⟩
  | 68 => ⟨S800000x64, .f32⟩
  | 69 => ⟨S_, .f32⟩
  | 70 => ⟨S800000x64, .f32⟩
  | 71 => ⟨S800000x64, .f32⟩
  | 72 => ⟨S_, .f32⟩
  | 73 => ⟨S50000x64, .f32⟩
  | 74 => ⟨S800000x1, .i32⟩
  | 75 => ⟨S50000x64, .f32⟩
  | 76 => ⟨S_, .f32⟩
  | 77 => ⟨S1024x64, .f32⟩
  | 78 => ⟨S50000x1, .i32⟩
  | 79 => ⟨S1024x64, .f32⟩
  | 80 => ⟨S1024x64, .f32⟩
  | 81 => ⟨S1x64, .f32⟩
  | 82 => ⟨S1024x64, .f32⟩
  | 83 => ⟨S1024x64, .f32⟩
  | 84 => ⟨S_, .f32⟩
  | 85 => ⟨S1024x64, .f32⟩
  | 86 => ⟨S1024x64, .f32⟩
  | 87 => ⟨S1024x1, .f32⟩
  | 88 => ⟨S1x1, .f32⟩
  | 89 => ⟨S1024x1, .f32⟩
  | 90 => ⟨S1024x1, .f32⟩
  | 91 => ⟨S1024, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v0 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v1 : Ref sig .tc := ⟨.hbm, 59, rfl⟩
abbrev main_v2 : Ref sig .tc := ⟨.hbm, 60, rfl⟩
abbrev main_v3 : Ref sig .tc := ⟨.hbm, 61, rfl⟩
abbrev main_v4 : Ref sig .tc := ⟨.hbm, 62, rfl⟩
abbrev main_v5 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v6 : Ref sig .tc := ⟨.hbm, 86, rfl⟩
abbrev main_v7 : Ref sig .tc := ⟨.hbm, 87, rfl⟩
abbrev main_v8 : Ref sig .tc := ⟨.hbm, 88, rfl⟩
abbrev main_v9 : Ref sig .tc := ⟨.hbm, 89, rfl⟩
abbrev main_v10 : Ref sig .tc := ⟨.hbm, 90, rfl⟩
abbrev main_v11 : Ref sig .tc := ⟨.hbm, 91, rfl⟩
abbrev main_call3_cst : Ref sig .tc := ⟨.hbm, 92, rfl⟩
abbrev main_call3_v0 : Ref sig .tc := ⟨.hbm, 93, rfl⟩
abbrev main_v12 : Ref sig .tc := ⟨.hbm, 94, rfl⟩
abbrev main_cst : Ref sig .tc := ⟨.hbm, 95, rfl⟩
abbrev main_v13 : Ref sig .tc := ⟨.hbm, 96, rfl⟩
abbrev main_v14 : Ref sig .tc := ⟨.hbm, 97, rfl⟩
abbrev main_v15 : Ref sig .tc := ⟨.hbm, 98, rfl⟩
abbrev main_call4_c : Ref sig .tc := ⟨.hbm, 99, rfl⟩
abbrev main_call4_v0 : Ref sig .tc := ⟨.hbm, 100, rfl⟩
abbrev main_call4_v1 : Ref sig .tc := ⟨.hbm, 101, rfl⟩
abbrev main_call4_c_0 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_call4_v5 : Ref sig .tc := ⟨.hbm, 106, rfl⟩
abbrev main_call4_c_1 : Ref sig .tc := ⟨.hbm, 107, rfl⟩
abbrev main_call4_c_2 : Ref sig .tc := ⟨.hbm, 108, rfl⟩
abbrev main_call4_v6 : Ref sig .tc := ⟨.hbm, 109, rfl⟩
abbrev main_call4_v7 : Ref sig .tc := ⟨.hbm, 110, rfl⟩
abbrev main_call4_v8 : Ref sig .tc := ⟨.hbm, 111, rfl⟩
abbrev main_call4_v9 : Ref sig .tc := ⟨.hbm, 112, rfl⟩
abbrev main_call4_v10 : Ref sig .tc := ⟨.hbm, 113, rfl⟩
abbrev main_call4_v11 : Ref sig .tc := ⟨.hbm, 114, rfl⟩
abbrev main_call4_c_3 : Ref sig .tc := ⟨.hbm, 115, rfl⟩
abbrev main_call4_v12 : Ref sig .tc := ⟨.hbm, 116, rfl⟩
abbrev main_call4_v13 : Ref sig .tc := ⟨.hbm, 117, rfl⟩
abbrev main_call4_v14 : Ref sig .tc := ⟨.hbm, 118, rfl⟩
abbrev main_call4_cst : Ref sig .tc := ⟨.hbm, 119, rfl⟩
abbrev main_call4_v15 : Ref sig .tc := ⟨.hbm, 120, rfl⟩
abbrev main_v16 : Ref sig .tc := ⟨.hbm, 121, rfl⟩
abbrev main_v17 : Ref sig .tc := ⟨.hbm, 122, rfl⟩
abbrev main_v18 : Ref sig .tc := ⟨.hbm, 123, rfl⟩
abbrev main_v19 : Ref sig .tc := ⟨.hbm, 124, rfl⟩
abbrev main_v20 : Ref sig .tc := ⟨.hbm, 125, rfl⟩
abbrev main_v21 : Ref sig .tc := ⟨.hbm, 126, rfl⟩
abbrev main_call5_cst : Ref sig .tc := ⟨.hbm, 127, rfl⟩
abbrev main_call5_v0 : Ref sig .tc := ⟨.hbm, 128, rfl⟩
abbrev main_v22 : Ref sig .tc := ⟨.hbm, 129, rfl⟩
abbrev main_cst_0 : Ref sig .tc := ⟨.hbm, 130, rfl⟩
abbrev main_v23 : Ref sig .tc := ⟨.hbm, 131, rfl⟩
abbrev main_v24 : Ref sig .tc := ⟨.hbm, 132, rfl⟩
abbrev main_v25 : Ref sig .tc := ⟨.hbm, 133, rfl⟩
abbrev main_call6_c : Ref sig .tc := ⟨.hbm, 134, rfl⟩
abbrev main_call6_v0 : Ref sig .tc := ⟨.hbm, 135, rfl⟩
abbrev main_call6_v1 : Ref sig .tc := ⟨.hbm, 136, rfl⟩
abbrev main_call6_c_0 : Ref sig .tc := ⟨.hbm, 137, rfl⟩
abbrev main_call6_v2 : Ref sig .tc := ⟨.hbm, 138, rfl⟩
abbrev main_call6_v3 : Ref sig .tc := ⟨.hbm, 139, rfl⟩
abbrev main_call6_v4 : Ref sig .tc := ⟨.hbm, 140, rfl⟩
abbrev main_call6_v5 : Ref sig .tc := ⟨.hbm, 141, rfl⟩
abbrev main_call6_c_1 : Ref sig .tc := ⟨.hbm, 142, rfl⟩
abbrev main_call6_c_2 : Ref sig .tc := ⟨.hbm, 143, rfl⟩
abbrev main_call6_v6 : Ref sig .tc := ⟨.hbm, 144, rfl⟩
abbrev main_call6_v7 : Ref sig .tc := ⟨.hbm, 145, rfl⟩
abbrev main_call6_v8 : Ref sig .tc := ⟨.hbm, 146, rfl⟩
abbrev main_call6_v9 : Ref sig .tc := ⟨.hbm, 147, rfl⟩
abbrev main_call6_v10 : Ref sig .tc := ⟨.hbm, 148, rfl⟩
abbrev main_call6_v11 : Ref sig .tc := ⟨.hbm, 149, rfl⟩
abbrev main_call6_c_3 : Ref sig .tc := ⟨.hbm, 150, rfl⟩
abbrev main_call6_v12 : Ref sig .tc := ⟨.hbm, 151, rfl⟩
abbrev main_call6_v13 : Ref sig .tc := ⟨.hbm, 152, rfl⟩
abbrev main_call6_v14 : Ref sig .tc := ⟨.hbm, 153, rfl⟩
abbrev main_call6_cst : Ref sig .tc := ⟨.hbm, 154, rfl⟩
abbrev main_call6_v15 : Ref sig .tc := ⟨.hbm, 155, rfl⟩
abbrev main_v26 : Ref sig .tc := ⟨.hbm, 156, rfl⟩
abbrev main_v27 : Ref sig .tc := ⟨.hbm, 157, rfl⟩
abbrev main_v28 : Ref sig .tc := ⟨.hbm, 158, rfl⟩
abbrev main_v29 : Ref sig .tc := ⟨.hbm, 159, rfl⟩
abbrev main_v30 : Ref sig .tc := ⟨.hbm, 160, rfl⟩
abbrev main_v31 : Ref sig .tc := ⟨.hbm, 161, rfl⟩
abbrev main_call7_cst : Ref sig .tc := ⟨.hbm, 162, rfl⟩
abbrev main_call7_v0 : Ref sig .tc := ⟨.hbm, 163, rfl⟩
abbrev main_v32 : Ref sig .tc := ⟨.hbm, 164, rfl⟩
abbrev main_cst_1 : Ref sig .tc := ⟨.hbm, 165, rfl⟩
abbrev main_v33 : Ref sig .tc := ⟨.hbm, 166, rfl⟩
abbrev main_v34 : Ref sig .tc := ⟨.hbm, 167, rfl⟩
abbrev main_v35 : Ref sig .tc := ⟨.hbm, 168, rfl⟩
abbrev main_call8_c : Ref sig .tc := ⟨.hbm, 169, rfl⟩
abbrev main_call8_v0 : Ref sig .tc := ⟨.hbm, 170, rfl⟩
abbrev main_call8_v1 : Ref sig .tc := ⟨.hbm, 171, rfl⟩
abbrev main_call8_c_0 : Ref sig .tc := ⟨.hbm, 172, rfl⟩
abbrev main_call8_v2 : Ref sig .tc := ⟨.hbm, 173, rfl⟩
abbrev main_call8_v3 : Ref sig .tc := ⟨.hbm, 174, rfl⟩
abbrev main_call8_v4 : Ref sig .tc := ⟨.hbm, 175, rfl⟩
abbrev main_call8_v5 : Ref sig .tc := ⟨.hbm, 176, rfl⟩
abbrev main_call8_c_1 : Ref sig .tc := ⟨.hbm, 177, rfl⟩
abbrev main_call8_c_2 : Ref sig .tc := ⟨.hbm, 178, rfl⟩
abbrev main_call8_v6 : Ref sig .tc := ⟨.hbm, 179, rfl⟩
abbrev main_call8_v7 : Ref sig .tc := ⟨.hbm, 180, rfl⟩
abbrev main_call8_v8 : Ref sig .tc := ⟨.hbm, 181, rfl⟩
abbrev main_call8_v9 : Ref sig .tc := ⟨.hbm, 182, rfl⟩
abbrev main_call8_v10 : Ref sig .tc := ⟨.hbm, 183, rfl⟩
abbrev main_call8_v11 : Ref sig .tc := ⟨.hbm, 184, rfl⟩
abbrev main_call8_c_3 : Ref sig .tc := ⟨.hbm, 185, rfl⟩
abbrev main_call8_v12 : Ref sig .tc := ⟨.hbm, 186, rfl⟩
abbrev main_call8_v13 : Ref sig .tc := ⟨.hbm, 187, rfl⟩
abbrev main_call8_v14 : Ref sig .tc := ⟨.hbm, 188, rfl⟩
abbrev main_call8_cst : Ref sig .tc := ⟨.hbm, 189, rfl⟩
abbrev main_call8_v15 : Ref sig .tc := ⟨.hbm, 190, rfl⟩
abbrev main_v36 : Ref sig .tc := ⟨.hbm, 191, rfl⟩
abbrev main_v37 : Ref sig .tc := ⟨.hbm, 192, rfl⟩
abbrev main_v38 : Ref sig .tc := ⟨.hbm, 193, rfl⟩
abbrev main_v39 : Ref sig .tc := ⟨.hbm, 194, rfl⟩
abbrev main_v40 : Ref sig .tc := ⟨.hbm, 195, rfl⟩
abbrev main_v41 : Ref sig .tc := ⟨.hbm, 196, rfl⟩
abbrev main_call9_cst : Ref sig .tc := ⟨.hbm, 197, rfl⟩
abbrev main_call9_v0 : Ref sig .tc := ⟨.hbm, 198, rfl⟩
abbrev main_v42 : Ref sig .tc := ⟨.hbm, 199, rfl⟩
abbrev main_cst_2 : Ref sig .tc := ⟨.hbm, 200, rfl⟩
abbrev main_v43 : Ref sig .tc := ⟨.hbm, 201, rfl⟩
abbrev main_v44 : Ref sig .tc := ⟨.hbm, 202, rfl⟩
abbrev main_v45 : Ref sig .tc := ⟨.hbm, 203, rfl⟩
abbrev main_cst_3 : Ref sig .tc := ⟨.hbm, 204, rfl⟩
abbrev main_v46 : Ref sig .tc := ⟨.hbm, 205, rfl⟩
abbrev main_v47 : Ref sig .tc := ⟨.hbm, 206, rfl⟩
abbrev main_v48 : Ref sig .tc := ⟨.hbm, 207, rfl⟩
abbrev main_v49 : Ref sig .tc := ⟨.hbm, 208, rfl⟩
abbrev main_v50 : Ref sig .tc := ⟨.hbm, 209, rfl⟩
abbrev main_v51 : Ref sig .tc := ⟨.hbm, 210, rfl⟩
abbrev main_v52 : Ref sig .tc := ⟨.hbm, 211, rfl⟩
abbrev main_call10_cst : Ref sig .tc := ⟨.hbm, 212, rfl⟩
abbrev main_call10_v0 : Ref sig .tc := ⟨.hbm, 213, rfl⟩
abbrev main_v53 : Ref sig .tc := ⟨.hbm, 214, rfl⟩
abbrev main_v54 : Ref sig .tc := ⟨.hbm, 215, rfl⟩
abbrev main_v55 : Ref sig .tc := ⟨.hbm, 216, rfl⟩
abbrev main_v56 : Ref sig .tc := ⟨.hbm, 217, rfl⟩
abbrev main_v57 : Ref sig .tc := ⟨.hbm, 218, rfl⟩
abbrev main_v58 : Ref sig .tc := ⟨.hbm, 219, rfl⟩

abbrev nD : Nat := 1
abbrev τ : Topo := Topo.v7x

variable {F : FTy → Type} [FloatOps F]
-- ==== Proof.Take.lean ====
/- Reading the rows of a table, as `jnp.take` along axis 0 prints: the index is wrapped when negative, a row out of
   range is filled, the others are gathered. With every index in range it is a plain read of rows. -/
module

public import Idealize.ShloMosaic.Lib.Pointwise
public import Idealize.ShloMosaic.Lib.ReduceAll
public import Idealize.ShloMosaic.Lib.Affine

@[expose] public section

noncomputable section

namespace Cert.Rows

open Idealize.ShloMosaic

/-- The dimension numbers of a gather of whole rows: operand `[N, D]`, start indices `[E, 1]`, result `[E, D]`. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Row `i e` of the table, for every `e`; an index past the table's ends reads the end row. -/
def rowsOf {α : Type} {N D E : Nat} [NeZero N] (x : (⟨2, ![N, D]⟩ : Shape).Idx → α) (i : IVec ⟨1, ![E]⟩ 32) :
    (⟨2, ![E, D]⟩ : Shape).Idx → α :=
  fun j => x (ix2 ⟨min (i (ix1 (j 0))).toInt.toNat (N - 1), by have := NeZero.pos N; omega⟩ (j 1))

/-- A gather of rows at a result index: the column is the result's own, the row the start index, clamped. -/
theorem gather_rows {α : Type} {N D E : Nat} [NeZero N]
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (i : IVec ⟨1, ![E]⟩ 32)
    (h : ∀ e : Fin E, idx (ix2 e 0) = i (ix1 e)) : Host.gather (rowDims N D E wf) x idx = rowsOf x i := by
  funext y
  unfold Host.gather rowsOf
  congr 1
  funext a
  refine Fin.ext ?_
  show (rowDims N D E wf).start y idx a + (rowDims N D E wf).batchCoord y a + (rowDims N D E wf).offCoord y a = _
  rw [GatherDims.batchCoord_eq_zero _ _ _ List.not_mem_nil]
  match a with
  | ⟨0, _⟩ =>
    rw [GatherDims.offCoord_eq_zero _ _ _
      (fun h => ((GatherDims.mem_sKept _ _).mp h).1 (List.mem_singleton.mpr rfl))]
    unfold GatherDims.start
    rw [dif_pos (show (⟨0, by decide⟩ : Fin 2) ∈ (rowDims N D E wf).startIndexMap from List.mem_singleton.mpr rfl)]
    have hs : (rowDims N D E wf).siIdx y ⟨List.idxOf (0 : Fin 2) (rowDims N D E wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    show min ((idx _).toInt.toNat) (N - 1) + 0 + 0 = _
    erw [hs, h]
    rfl
  | ⟨1, _⟩ =>
    have h0 : (rowDims N D E wf).start y idx ⟨1, Nat.one_lt_two⟩ = 0 := by
      unfold GatherDims.start
      rw [dif_neg (by simp)]
    rw [h0]
    show 0 + 0 + (rowDims N D E wf).offCoord y ⟨1, Nat.one_lt_two⟩ = (y 1).val
    simp only [Nat.zero_add]
    rfl

/-- `jnp.take` of rows as it prints: `n` the table's length and `last` its last row, as words, `nan` the filling value. -/
def fillTake {α : Type} {N D E : Nat} (n last : BitVec 32) (nan : (⟨0, ![]⟩ : Shape).Idx → α)
    (b0 : (⟨0, ![]⟩ : Shape).BroadcastsInDim ⟨1, ![E]⟩ ![]) (b1 : (⟨1, ![E]⟩ : Shape).BroadcastsInDim ⟨2, ![E, 1]⟩ ![0])
    (b2 : (⟨0, ![]⟩ : Shape).BroadcastsInDim ⟨2, ![E, 1]⟩ ![]) (b3 : (⟨1, ![1]⟩ : Shape).BroadcastsInDim ⟨2, ![1, 1]⟩ ![1])
    (b4 : (⟨2, ![1, 1]⟩ : Shape).BroadcastsInDim ⟨2, ![E, 1]⟩ ![0, 1])
    (hr : (⟨2, ![E, 1]⟩ : Shape).ReducesTo [1] ⟨1, ![E]⟩) (hu : 0 < (⟨0, ![]⟩ : Shape).numel)
    (b5 : (⟨1, ![E]⟩ : Shape).BroadcastsInDim ⟨2, ![E, D]⟩ ![0]) (b6 : (⟨0, ![]⟩ : Shape).BroadcastsInDim ⟨2, ![E, D]⟩ ![])
    (d : GatherDims ⟨2, ![N, D]⟩ ⟨2, ![E, 1]⟩ ⟨2, ![E, D]⟩)
    (x : (⟨2, ![N, D]⟩ : Shape).Idx → α) (i : IVec ⟨1, ![E]⟩ 32) : (⟨2, ![E, D]⟩ : Shape).Idx → α :=
  let w : IVec ⟨2, ![E, 1]⟩ 32 := broadcastInDim _ ![0] b1
    (select (cmpi .slt i (broadcastInDim _ ![] b0 (constantI ⟨0, ![]⟩ 32 0#32)))
      (addi i (broadcastInDim _ ![] b0 (constantI ⟨0, ![]⟩ 32 n))) i)
  select (broadcastInDim _ ![0] b5 (Host.reduce IntOp.andi
      (andi (cmpi .sge w (broadcastInDim _ ![] b2 (constantI ⟨0, ![]⟩ 32 0#32)))
        (cmpi .sle w (broadcastInDim _ ![0, 1] b4 (broadcastInDim _ ![1] b3 (constantI ⟨1, ![1]⟩ 32 last)))))
      (constantI ⟨0, ![]⟩ 1 1#1) hr hu))
    (Host.gather d x w) (broadcastInDim _ ![] b6 nan)

/-- With every index between 0 and the last row the take reads rows: nothing is wrapped and nothing filled. -/
theorem fillTake_eq {α : Type} {N D E : Nat} [NeZero N] (n last : BitVec 32) (nan : (⟨0, ![]⟩ : Shape).Idx → α) (b0 b1 b2 b3 b4 hr hu b5 b6)
    (wf : GatherDims.WF ⟨2, ![N, D]⟩ ⟨2, ![E, 1]⟩ ⟨2, ![E, D]⟩ [1] [0] [] [0] [] 1 ![1, D])
    (x : (⟨2, ![N, D]⟩ : Shape).Idx → α) (i : IVec ⟨1, ![E]⟩ 32)
    (h : ∀ e, 0 ≤ (i e).toInt ∧ (i e).toInt ≤ last.toInt) :
    fillTake n last nan b0 b1 b2 b3 b4 hr hu b5 b6 (rowDims N D E wf) x i = rowsOf x i := by
  have hw : (select (cmpi .slt i (broadcastInDim _ ![] b0 (constantI ⟨0, ![]⟩ 32 0#32)))
      (addi i (broadcastInDim _ ![] b0 (constantI ⟨0, ![]⟩ 32 n))) i) = i := by
    funext e
    show Scalar.select (IntOp.cmpi .slt (i e) 0#32) _ (i e) = i e
    have : IntOp.cmpi .slt (i e) 0#32 = 0#1 := by
      rcases BitVec.eq_zero_or_eq_one (IntOp.cmpi .slt (i e) 0#32) with h0 | h1
      · exact h0
      · have := IntOp.cmpi_slt.1 h1
        have h2 := (h e).1
        simp at this
        omega
    rw [this]; rfl
  unfold fillTake
  rw [hw]
  dsimp only
  have hm : ∀ j, (Host.reduce IntOp.andi
      (andi (cmpi .sge (broadcastInDim ⟨2, ![E, 1]⟩ ![0] b1 i) (broadcastInDim _ ![] b2 (constantI ⟨0, ![]⟩ 32 0#32)))
        (cmpi .sle (broadcastInDim ⟨2, ![E, 1]⟩ ![0] b1 i)
          (broadcastInDim _ ![0, 1] b4 (broadcastInDim _ ![1] b3 (constantI ⟨1, ![1]⟩ 32 last)))))
      (constantI ⟨0, ![]⟩ 1 1#1) hr hu) j = 1#1 := by
    intro j
    refine Host.reduce_andi_one _ _ _ _ _ rfl fun k => ?_
    show IntOp.andi (IntOp.cmpi .sge (i _) 0#32) (IntOp.cmpi .sle (i _) last) = 1#1
    refine IntOp.andi_eq_one.2 ⟨IntOp.cmpi_sge.2 ?_, IntOp.cmpi_sle.2 (h _).2⟩
    simpa using (h _).1
  rw [gather_rows wf x _ i]
  · funext j
    show Scalar.select (Host.reduce IntOp.andi _ _ hr hu _) _ _ = _
    rw [hm]; rfl
  · intro e
    show i _ = i _
    congr 1
    funext a
    obtain rfl : a = 0 := Subsingleton.elim _ _
    refine Fin.ext ?_
    by_cases h1 : E = 1
    · subst h1
      have := e.isLt
      simp
    · simp [h1]

end Cert.Rows

end
-- ==== Proof.KHost.lean ====
/- The kernel's host operations before the region, read group by group: what each call of `_take`, each message pass
   and the final pooling leave in the buffers that are used later. -/
module

public import proofs.«01_k».proof.Proof.Gen.KernelIdeal.Launch
public import proofs.«01_k».proof.Proof.Take
public import Idealize.ShloMosaic.Lib.StableHlo.Run

@[expose] public section

set_option maxRecDepth 16384

noncomputable section

namespace Cert.KernelIdeal.Host

open Idealize.ShloMosaic Idealize.ShloMosaic.TcCoe Idealize.ShloMosaic.StableHlo
open Cert.KernelIdeal.Gen

variable {F : FTy → Type} [FloatOps F]

/-- Rows of the atoms' products by atom type. -/
def takeAtoms (x : FVec F S119x128 .f32) (i : IVec S50000 32) : FVec F S50000x128 .f32 :=
  Rows.fillTake 119#32 118#32 (constant S_ .f32 0x7FC00000#32) bcast_S_S50000 bcast_S50000_S50000x1_0 bcast_S_S50000x1
    bcast_S1_S1x1_1 bcast_S1x1_S50000x1_0_1 reducesTo_S50000x1_S50000_d1 h_S_ bcast_S50000_S50000x128_0
    bcast_S_S50000x128 gather_S119x128_S50000x1_S50000x128_1_0_n_n_0_1_1128 x i

/-- Rows of the nodes' array by source node. -/
def takeNodes (x : FVec F S50000x64 .f32) (i : IVec S800000 32) : FVec F S800000x64 .f32 :=
  Rows.fillTake 50000#32 49999#32 (constant S_ .f32 0x7FC00000#32) bcast_S_S800000 bcast_S800000_S800000x1_0
    bcast_S_S800000x1 bcast_S1_S1x1_1 bcast_S1x1_S800000x1_0_1 reducesTo_S800000x1_S800000_d1 h_S_
    bcast_S800000_S800000x64_0 bcast_S_S800000x64 gather_S50000x64_S800000x1_S800000x64_1_0_n_n_0_1_164 x i

/-- Rows of the bonds' products by bond type. -/
def takeBonds (x : FVec F S4x64 .f32) (i : IVec S800000 32) : FVec F S800000x64 .f32 :=
  Rows.fillTake 4#32 3#32 (constant S_ .f32 0x7FC00000#32) bcast_S_S800000 bcast_S800000_S800000x1_0
    bcast_S_S800000x1 bcast_S1_S1x1_1 bcast_S1x1_S800000x1_0_1 reducesTo_S800000x1_S800000_d1 h_S_
    bcast_S800000_S800000x64_0 bcast_S_S800000x64 gather_S4x64_S800000x1_S800000x64_1_0_n_n_0_1_164 x i

/-- The buffers group 0 writes. -/
def W0 : List (Ref sig .tc) := [main_v0, main_v1, main_v2, main_v3, main_v4, main_v5, main_v6, main_v7]
theorem W0_writes : (hostOps0 : List (HloOp τ sig (Elt F))).Forall fun op => op.writes ⊆ (W0.map (Proc.devRef (τ := τ) .tc)).toFinset :=
  forall_writes_sub_of_map rfl
theorem keep0 (V : Valuation τ sig (Elt F)) (r : Ref sig .tc) (h : r ∉ W0) :
    after hostOps0 V (Proc.devRef .tc r) = V (Proc.devRef .tc r) :=
  after_of_writes_sub hostOps0 _ W0_writes h

/-- The buffers group 1 writes. -/
def W1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v8]
theorem W1_writes : (hostOps0_1 : List (HloOp τ sig (Elt F))).Forall fun op => op.writes ⊆ (W1.map (Proc.devRef (τ := τ) .tc)).toFinset :=
  forall_writes_sub_of_map rfl
theorem keep1 (V : Valuation τ sig (Elt F)) (r : Ref sig .tc) (h : r ∉ W1) :
    after hostOps0_1 V (Proc.devRef .tc r) = V (Proc.devRef .tc r) :=
  after_of_writes_sub hostOps0_1 _ W1_writes h
theorem take1 (V : Valuation τ sig (Elt F)) : after hostOps0_1 V (Proc.devRef .tc main_v8) =
    takeAtoms (V (Proc.devRef .tc main_v7)) (V (Proc.devRef .tc main_arg0)) := by
  simp only [hostOps0_1, TRef.binary, TRef.nullary, TRef.unary, TRef.ternary, TRef.toBuf, TRef.ofBuf, cast_eq]
  after_results_simp
  rfl

/-- The buffers group 2 writes. -/
def W2 : List (Ref sig .tc) := [main_v9, main_v10, main_v11, main_v12, main_v13, main_v14, main_v15, main_v16, main_v17, main_v18, main_v19, main_v20, main_v21]
theorem W2_writes : (hostOps0_2 : List (HloOp τ sig (Elt F))).Forall fun op => op.writes ⊆ (W2.map (Proc.devRef (τ := τ) .tc)).toFinset :=
  forall_writes_sub_of_map rfl
theorem keep2 (V : Valuation τ sig (Elt F)) (r : Ref sig .tc) (h : r ∉ W2) :
    after hostOps0_2 V (Proc.devRef .tc r) = V (Proc.devRef .tc r) :=
  after_of_writes_sub hostOps0_2 _ W2_writes h

/-- The buffers group 3 writes. -/
def W3 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v22]
theorem W3_writes : (hostOps0_3 : List (HloOp τ sig (Elt F))).Forall fun op => op.writes ⊆ (W3.map (Proc.devRef (τ := τ) .tc)).toFinset :=
  forall_writes_sub_of_map rfl
theorem keep3 (V : Valuation τ sig (Elt F)) (r : Ref sig .tc) (h : r ∉ W3) :
    after hostOps0_3 V (Proc.devRef .tc r) = V (Proc.devRef .tc r) :=
  after_of_writes_sub hostOps0_3 _ W3_writes h
theorem take3 (V : Valuation τ sig (Elt F)) : after hostOps0_3 V (Proc.devRef .tc main_v22) =
    takeNodes (V (Proc.devRef .tc main_v9)) (V (Proc.devRef .tc main_v1)) := by
  simp only [hostOps0_3, TRef.binary, TRef.nullary, TRef.unary, TRef.ternary, TRef.toBuf, TRef.ofBuf, cast_eq]
  after_results_simp
  rfl

/-- The buffers group 4 writes. -/
def W4 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v23]
theorem W4_writes : (hostOps0_4 : List (HloOp τ sig (Elt F))).Forall fun op => op.writes ⊆ (W4.map (Proc.devRef (τ := τ) .tc)).toFinset :=
  forall_writes_sub_of_map rfl
theorem keep4 (V : Valuation τ sig (Elt F)) (r : Ref sig .tc) (h : r ∉ W4) :
    after hostOps0_4 V (Proc.devRef .tc r) = V (Proc.devRef .tc r) :=
  after_of_writes_sub hostOps0_4 _ W4_writes h
theorem take4 (V : Valuation τ sig (Elt F)) : after hostOps0_4 V (Proc.devRef .tc main_v23) =
    takeBonds (V (Proc.devRef .tc main_v15)) (V (Proc.devRef .tc main_arg2)) := by
  simp only [hostOps0_4, TRef.binary, TRef.nullary, TRef.unary, TRef.ternary, TRef.toBuf, TRef.ofBuf, cast_eq]
  after_results_simp
  rfl

/-- The buffers group 5 writes. -/
def W5 : List (Ref sig .tc) := [main_v24, main_cst, main_v25, main_v26, main_cst_0, main_v27, main_v28, main_v29, main_v30, main_v31]
theorem W5_writes : (hostOps0_5 : List (HloOp τ sig (Elt F))).Forall fun op => op.writes ⊆ (W5.map (Proc.devRef (τ := τ) .tc)).toFinset :=
  forall_writes_sub_of_map rfl
theorem keep5 (V : Valuation τ sig (Elt F)) (r : Ref sig .tc) (h : r ∉ W5) :
    after hostOps0_5 V (Proc.devRef .tc r) = V (Proc.devRef .tc r) :=
  after_of_writes_sub hostOps0_5 _ W5_writes h

/-- The buffers group 6 writes. -/
def W6 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v32]
theorem W6_writes : (hostOps0_6 : List (HloOp τ sig (Elt F))).Forall fun op => op.writes ⊆ (W6.map (Proc.devRef (τ := τ) .tc)).toFinset :=
  forall_writes_sub_of_map rfl
theorem keep6 (V : Valuation τ sig (Elt F)) (r : Ref sig .tc) (h : r ∉ W6) :
    after hostOps0_6 V (Proc.devRef .tc r) = V (Proc.devRef .tc r) :=
  after_of_writes_sub hostOps0_6 _ W6_writes h
theorem take6 (V : Valuation τ sig (Elt F)) : after hostOps0_6 V (Proc.devRef .tc main_v32) =
    takeNodes (V (Proc.devRef .tc main_v31)) (V (Proc.devRef .tc main_v1)) := by
  simp only [hostOps0_6, TRef.binary, TRef.nullary, TRef.unary, TRef.ternary, TRef.toBuf, TRef.ofBuf, cast_eq]
  after_results_simp
  rfl

/-- The buffers group 7 writes. -/
def W7 : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v33]
theorem W7_writes : (hostOps0_7 : List (HloOp τ sig (Elt F))).Forall fun op => op.writes ⊆ (W7.map (Proc.devRef (τ := τ) .tc)).toFinset :=
  forall_writes_sub_of_map rfl
theorem keep7 (V : Valuation τ sig (Elt F)) (r : Ref sig .tc) (h : r ∉ W7) :
    after hostOps0_7 V (Proc.devRef .tc r) = V (Proc.devRef .tc r) :=
  after_of_writes_sub hostOps0_7 _ W7_writes h
theorem take7 (V : Valuation τ sig (Elt F)) : after hostOps0_7 V (Proc.devRef .tc main_v33) =
    takeBonds (V (Proc.devRef .tc main_v20)) (V (Proc.devRef .tc main_arg2)) := by
  simp only [hostOps0_7, TRef.binary, TRef.nullary, TRef.unary, TRef.ternary, TRef.toBuf, TRef.ofBuf, cast_eq]
  after_results_simp
  rfl

/-- The buffers group 8 writes. -/
def W8 : List (Ref sig .tc) := [main_v34, main_cst_1, main_v35, main_v36, main_cst_2, main_v37, main_v38, main_v39, main_v40, main_v41]
theorem W8_writes : (hostOps0_8 : List (HloOp τ sig (Elt F))).Forall fun op => op.writes ⊆ (W8.map (Proc.devRef (τ := τ) .tc)).toFinset :=
  forall_writes_sub_of_map rfl
theorem keep8 (V : Valuation τ sig (Elt F)) (r : Ref sig .tc) (h : r ∉ W8) :
    after hostOps0_8 V (Proc.devRef .tc r) = V (Proc.devRef .tc r) :=
  after_of_writes_sub hostOps0_8 _ W8_writes h

/-- The buffers group 9 writes. -/
def W9 : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v42]
theorem W9_writes : (hostOps0_9 : List (HloOp τ sig (Elt F))).Forall fun op => op.writes ⊆ (W9.map (Proc.devRef (τ := τ) .tc)).toFinset :=
  forall_writes_sub_of_map rfl
theorem keep9 (V : Valuation τ sig (Elt F)) (r : Ref sig .tc) (h : r ∉ W9) :
    after hostOps0_9 V (Proc.devRef .tc r) = V (Proc.devRef .tc r) :=
  after_of_writes_sub hostOps0_9 _ W9_writes h
theorem take9 (V : Valuation τ sig (Elt F)) : after hostOps0_9 V (Proc.devRef .tc main_v42) =
    takeNodes (V (Proc.devRef .tc main_v41)) (V (Proc.devRef .tc main_v1)) := by
  simp only [hostOps0_9, TRef.binary, TRef.nullary, TRef.unary, TRef.ternary, TRef.toBuf, TRef.ofBuf, cast_eq]
  after_results_simp
  rfl

/-- The buffers group 10 writes. -/
def W10 : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v43]
theorem W10_writes : (hostOps0_10 : List (HloOp τ sig (Elt F))).Forall fun op => op.writes ⊆ (W10.map (Proc.devRef (τ := τ) .tc)).toFinset :=
  forall_writes_sub_of_map rfl
theorem keep10 (V : Valuation τ sig (Elt F)) (r : Ref sig .tc) (h : r ∉ W10) :
    after hostOps0_10 V (Proc.devRef .tc r) = V (Proc.devRef .tc r) :=
  after_of_writes_sub hostOps0_10 _ W10_writes h
theorem take10 (V : Valuation τ sig (Elt F)) : after hostOps0_10 V (Proc.devRef .tc main_v43) =
    takeBonds (V (Proc.devRef .tc main_v20)) (V (Proc.devRef .tc main_arg2)) := by
  simp only [hostOps0_10, TRef.binary, TRef.nullary, TRef.unary, TRef.ternary, TRef.toBuf, TRef.ofBuf, cast_eq]
  after_results_simp
  rfl

/-- The buffers group 11 writes. -/
def W11 : List (Ref sig .tc) := [main_v44, main_cst_3, main_v45, main_v46, main_cst_4, main_v47, main_v48, main_v49, main_v50, main_v51]
theorem W11_writes : (hostOps0_11 : List (HloOp τ sig (Elt F))).Forall fun op => op.writes ⊆ (W11.map (Proc.devRef (τ := τ) .tc)).toFinset :=
  forall_writes_sub_of_map rfl
theorem keep11 (V : Valuation τ sig (Elt F)) (r : Ref sig .tc) (h : r ∉ W11) :
    after hostOps0_11 V (Proc.devRef .tc r) = V (Proc.devRef .tc r) :=
  after_of_writes_sub hostOps0_11 _ W11_writes h

/-- The buffers group 12 writes. -/
def W12 : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v52]
theorem W12_writes : (hostOps0_12 : List (HloOp τ sig (Elt F))).Forall fun op => op.writes ⊆ (W12.map (Proc.devRef (τ := τ) .tc)).toFinset :=
  forall_writes_sub_of_map rfl
theorem keep12 (V : Valuation τ sig (Elt F)) (r : Ref sig .tc) (h : r ∉ W12) :
    after hostOps0_12 V (Proc.devRef .tc r) = V (Proc.devRef .tc r) :=
  after_of_writes_sub hostOps0_12 _ W12_writes h
theorem take12 (V : Valuation τ sig (Elt F)) : after hostOps0_12 V (Proc.devRef .tc main_v52) =
    takeNodes (V (Proc.devRef .tc main_v51)) (V (Proc.devRef .tc main_v1)) := by
  simp only [hostOps0_12, TRef.binary, TRef.nullary, TRef.unary, TRef.ternary, TRef.toBuf, TRef.ofBuf, cast_eq]
  after_results_simp
  rfl

/-- The buffers group 13 writes. -/
def W13 : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v53]
theorem W13_writes : (hostOps0_13 : List (HloOp τ sig (Elt F))).Forall fun op => op.writes ⊆ (W13.map (Proc.devRef (τ := τ) .tc)).toFinset :=
  forall_writes_sub_of_map rfl
theorem keep13 (V : Valuation τ sig (Elt F)) (r : Ref sig .tc) (h : r ∉ W13) :
    after hostOps0_13 V (Proc.devRef .tc r) = V (Proc.devRef .tc r) :=
  after_of_writes_sub hostOps0_13 _ W13_writes h
theorem take13 (V : Valuation τ sig (Elt F)) : after hostOps0_13 V (Proc.devRef .tc main_v53) =
    takeBonds (V (Proc.devRef .tc main_v20)) (V (Proc.devRef .tc main_arg2)) := by
  simp only [hostOps0_13, TRef.binary, TRef.nullary, TRef.unary, TRef.ternary, TRef.toBuf, TRef.ofBuf, cast_eq]
  after_results_simp
  rfl

/-- The buffers group 14 writes. -/
def W14 : List (Ref sig .tc) := [main_v54, main_cst_5, main_v55, main_v56, main_cst_6, main_v57, main_v58, main_v59, main_v60, main_v61, main_cst_7, main_v62, main_v63, main_v64]
theorem W14_writes : (hostOps0_14 : List (HloOp τ sig (Elt F))).Forall fun op => op.writes ⊆ (W14.map (Proc.devRef (τ := τ) .tc)).toFinset :=
  forall_writes_sub_of_map rfl
theorem keep14 (V : Valuation τ sig (Elt F)) (r : Ref sig .tc) (h : r ∉ W14) :
    after hostOps0_14 V (Proc.devRef .tc r) = V (Proc.devRef .tc r) :=
  after_of_writes_sub hostOps0_14 _ W14_writes h

end Cert.KernelIdeal.Host

end
-- ==== Proof.KStages.lean ====
/- The kernel's pooled array as one composed term of the arguments: the stages by name, and the buffers in use after
   each group of host operations. -/
module

public import proofs.«01_k».proof.Proof.KHost

@[expose] public section

set_option maxRecDepth 16384

noncomputable section

namespace Cert.KernelIdeal.Host

open Idealize.ShloMosaic Idealize.ShloMosaic.TcCoe Idealize.ShloMosaic.StableHlo
open Cert.KernelIdeal.Gen

variable {F : FTy → Type} [FloatOps F]

/-! ## The stages -/

/-- The source nodes. -/
def srcOf (e : IVec S2x800000 32) : IVec S800000 32 :=
  shapeCast S800000 (extractStridedSlice S1x800000 ![0, 0] e slices_S2x800000_S1x800000_0_0) shapeCasts_S1x800000_S800000
/-- The target nodes. -/
def dstOf (e : IVec S2x800000 32) : IVec S800000 32 :=
  shapeCast S800000 (extractStridedSlice S1x800000 ![1, 0] e slices_S2x800000_S1x800000_1_0) shapeCasts_S1x800000_S800000
/-- The atom table times the two atom blocks of the weights, side by side. -/
def atomProd (t : FVec F S119x64 .f32) (wi : FVec F S80x64 .f32) (wu : FVec F S144x64 .f32) : FVec F S119x128 .f32 :=
  Host.dotGeneral dot_S119x64_S64x128_S119x128_1_0_0_1_n_n none t
    (concatenate S64x128 1 [⟨S64x64, extractStridedSlice S64x64 ![0, 0] wi slices_S80x64_S64x64_0_0⟩,
      ⟨S64x64, extractStridedSlice S64x64 ![0, 0] wu slices_S144x64_S64x64_0_0⟩] concatenates_S64x64_S64x64_S64x128_d1)
/-- The initial nodes' array: the left half. -/
def leftHalf (p : FVec F S50000x128 .f32) : FVec F S50000x64 .f32 :=
  extractStridedSlice S50000x64 ![0, 0] p slices_S50000x128_S50000x64_0_0
/-- The updates' constant part: the right half. -/
def rightHalf (p : FVec F S50000x128 .f32) : FVec F S50000x64 .f32 :=
  extractStridedSlice S50000x64 ![0, 64] p slices_S50000x128_S50000x64_0_64
/-- The bond table times a bond block of the weights, with the bias. -/
def bondProd (t : FVec F S4x16 .f32) (w : FVec F S16x64 .f32) (b : FVec F S64 .f32) : FVec F S4x64 .f32 :=
  addf (Host.dotGeneral dot_S4x16_S16x64_S4x64_1_0_0_1_n_n none t w)
    (broadcastInDim S4x64 ![0, 1] bcast_S1x64_S4x64_0_1 (broadcastInDim S1x64 ![1] bcast_S64_S1x64_1 b))
/-- The bond block of the initial weights. -/
def bondW (w : FVec F S80x64 .f32) : FVec F S16x64 .f32 := extractStridedSlice S16x64 ![64, 0] w slices_S80x64_S16x64_64_0
/-- The bond block of the update weights. -/
def bondU (w : FVec F S144x64 .f32) : FVec F S16x64 .f32 := extractStridedSlice S16x64 ![64, 0] w slices_S144x64_S16x64_64_0
/-- The block of the update weights that meets the summed messages. -/
def sumU (w : FVec F S144x64 .f32) : FVec F S64x64 .f32 := extractStridedSlice S64x64 ![80, 0] w slices_S144x64_S64x64_80_0
/-- The messages of the edges. -/
def msgs (a b : FVec F S800000x64 .f32) : FVec F S800000x64 .f32 :=
  maximumf (addf a b) (broadcastInDim S800000x64 ![] bcast_S_S800000x64 (constant S_ .f32 0x00000000#32))
/-- The messages summed at their target nodes. -/
def sumAt (d : IVec S800000 32) (u : FVec F S800000x64 .f32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 d) u
/-- The nodes' array of the next pass. -/
def nextNodes (base : FVec F S50000x64 .f32) (w : FVec F S64x64 .f32) (s : FVec F S50000x64 .f32) : FVec F S50000x64 .f32 :=
  addf base (Host.dotGeneral dot_S50000x64_S64x64_S50000x64_1_0_0_1_n_n none s w)
/-- The nodes pooled by molecule. -/
def poolAt (g : IVec S50000 32) (s : FVec F S50000x64 .f32) : FVec F S1024x64 .f32 :=
  Host.scatterAdd scatter_S1024x64_S50000x1_S50000x64_1_0_0_1
    (broadcastInDim S1024x64 ![] bcast_S_S1024x64 (constant S_ .f32 0x00000000#32))
    (broadcastInDim S50000x1 ![0] bcast_S50000_S50000x1_0 g) s

/-! ## The stages of a launch's arguments -/

variable (V0 : Valuation τ sig (Elt F))

def src : IVec S800000 32 := srcOf (V0 (Proc.devRef .tc main_arg1))
def dst : IVec S800000 32 := dstOf (V0 (Proc.devRef .tc main_arg1))
def prods : FVec F S50000x128 .f32 := takeAtoms (atomProd (V0 (Proc.devRef .tc main_arg4)) (V0 (Proc.devRef .tc main_arg6)) (V0 (Proc.devRef .tc main_arg8))) (V0 (Proc.devRef .tc main_arg0))
def bondI : FVec F S4x64 .f32 := bondProd (V0 (Proc.devRef .tc main_arg5)) (bondW (V0 (Proc.devRef .tc main_arg6))) (V0 (Proc.devRef .tc main_arg7))
def bondD : FVec F S4x64 .f32 := bondProd (V0 (Proc.devRef .tc main_arg5)) (bondU (V0 (Proc.devRef .tc main_arg8))) (V0 (Proc.devRef .tc main_arg9))
/-- The first pass's sums. -/
def sum0 : FVec F S50000x64 .f32 :=
  sumAt (dst V0) (msgs (takeNodes (leftHalf (prods V0)) (src V0)) (takeBonds (bondI V0) (V0 (Proc.devRef .tc main_arg2))))
/-- A later pass's sums from the pass before. -/
def step (s : FVec F S50000x64 .f32) : FVec F S50000x64 .f32 :=
  sumAt (dst V0) (msgs (takeNodes (nextNodes (rightHalf (prods V0)) (sumU (V0 (Proc.devRef .tc main_arg8))) s) (src V0))
    (takeBonds (bondD V0) (V0 (Proc.devRef .tc main_arg2))))
/-- The pooled array. -/
def pooled : FVec F S1024x64 .f32 := poolAt (V0 (Proc.devRef .tc main_arg3)) (step V0 (step V0 (step V0 (sum0 V0))))

/-! ## The groups of @main -/

theorem main0_v1 (V : Valuation τ sig (Elt F)) : after hostOps0 V (Proc.devRef .tc main_v1) =
    srcOf (V (Proc.devRef .tc main_arg1)) := by
  simp only [hostOps0]
  after_results_simp
  rfl
theorem main0_v3 (V : Valuation τ sig (Elt F)) : after hostOps0 V (Proc.devRef .tc main_v3) =
    dstOf (V (Proc.devRef .tc main_arg1)) := by
  simp only [hostOps0]
  after_results_simp
  rfl
theorem main0_v7 (V : Valuation τ sig (Elt F)) : after hostOps0 V (Proc.devRef .tc main_v7) =
    atomProd (V (Proc.devRef .tc main_arg4)) (V (Proc.devRef .tc main_arg6)) (V (Proc.devRef .tc main_arg8)) := by
  simp only [hostOps0]
  after_results_simp
  rfl
theorem main2_v9 (V : Valuation τ sig (Elt F)) : after hostOps0_2 V (Proc.devRef .tc main_v9) =
    leftHalf (V (Proc.devRef .tc main_v8)) := by
  simp only [hostOps0_2]
  after_results_simp
  rfl
theorem main2_v10 (V : Valuation τ sig (Elt F)) : after hostOps0_2 V (Proc.devRef .tc main_v10) =
    rightHalf (V (Proc.devRef .tc main_v8)) := by
  simp only [hostOps0_2]
  after_results_simp
  rfl
theorem main2_v15 (V : Valuation τ sig (Elt F)) : after hostOps0_2 V (Proc.devRef .tc main_v15) =
    bondProd (V (Proc.devRef .tc main_arg5)) (bondW (V (Proc.devRef .tc main_arg6))) (V (Proc.devRef .tc main_arg7)) := by
  simp only [hostOps0_2]
  after_results_simp
  rfl
theorem main2_v20 (V : Valuation τ sig (Elt F)) : after hostOps0_2 V (Proc.devRef .tc main_v20) =
    bondProd (V (Proc.devRef .tc main_arg5)) (bondU (V (Proc.devRef .tc main_arg8))) (V (Proc.devRef .tc main_arg9)) := by
  simp only [hostOps0_2]
  after_results_simp
  rfl
theorem main2_v21 (V : Valuation τ sig (Elt F)) : after hostOps0_2 V (Proc.devRef .tc main_v21) =
    sumU (V (Proc.devRef .tc main_arg8)) := by
  simp only [hostOps0_2]
  after_results_simp
  rfl
theorem main5_v31 (V : Valuation τ sig (Elt F)) : after hostOps0_5 V (Proc.devRef .tc main_v31) =
    nextNodes (V (Proc.devRef .tc main_v10)) (V (Proc.devRef .tc main_v21)) (sumAt (V (Proc.devRef .tc main_v3)) (msgs (V (Proc.devRef .tc main_v22)) (V (Proc.devRef .tc main_v23)))) := by
  simp only [hostOps0_5]
  after_results_simp
  rfl
theorem main8_v41 (V : Valuation τ sig (Elt F)) : after hostOps0_8 V (Proc.devRef .tc main_v41) =
    nextNodes (V (Proc.devRef .tc main_v10)) (V (Proc.devRef .tc main_v21)) (sumAt (V (Proc.devRef .tc main_v3)) (msgs (V (Proc.devRef .tc main_v32)) (V (Proc.devRef .tc main_v33)))) := by
  simp only [hostOps0_8]
  after_results_simp
  rfl
theorem main11_v51 (V : Valuation τ sig (Elt F)) : after hostOps0_11 V (Proc.devRef .tc main_v51) =
    nextNodes (V (Proc.devRef .tc main_v10)) (V (Proc.devRef .tc main_v21)) (sumAt (V (Proc.devRef .tc main_v3)) (msgs (V (Proc.devRef .tc main_v42)) (V (Proc.devRef .tc main_v43)))) := by
  simp only [hostOps0_11]
  after_results_simp
  rfl
theorem main14_v64 (V : Valuation τ sig (Elt F)) : after hostOps0_14 V (Proc.devRef .tc main_v64) =
    poolAt (V (Proc.devRef .tc main_arg3)) (sumAt (V (Proc.devRef .tc main_v3)) (msgs (V (Proc.devRef .tc main_v52)) (V (Proc.devRef .tc main_v53)))) := by
  simp only [hostOps0_14]
  after_results_simp
  rfl

/-! ## The buffers in use after each group -/

/-- The contents after group 0. -/
def val0 : Valuation τ sig (Elt F) := after hostOps0 V0
theorem val0_arg3 : val0 V0 (Proc.devRef .tc main_arg3) = V0 (Proc.devRef .tc main_arg3) :=
  (keep0 _ main_arg3 (by decide))
theorem val0_v3 : val0 V0 (Proc.devRef .tc main_v3) = dst V0 := main0_v3 V0
theorem val0_arg2 : val0 V0 (Proc.devRef .tc main_arg2) = V0 (Proc.devRef .tc main_arg2) :=
  (keep0 _ main_arg2 (by decide))
theorem val0_v1 : val0 V0 (Proc.devRef .tc main_v1) = src V0 := main0_v1 V0
theorem val0_arg5 : val0 V0 (Proc.devRef .tc main_arg5) = V0 (Proc.devRef .tc main_arg5) :=
  (keep0 _ main_arg5 (by decide))
theorem val0_arg6 : val0 V0 (Proc.devRef .tc main_arg6) = V0 (Proc.devRef .tc main_arg6) :=
  (keep0 _ main_arg6 (by decide))
theorem val0_arg7 : val0 V0 (Proc.devRef .tc main_arg7) = V0 (Proc.devRef .tc main_arg7) :=
  (keep0 _ main_arg7 (by decide))
theorem val0_arg8 : val0 V0 (Proc.devRef .tc main_arg8) = V0 (Proc.devRef .tc main_arg8) :=
  (keep0 _ main_arg8 (by decide))
theorem val0_arg9 : val0 V0 (Proc.devRef .tc main_arg9) = V0 (Proc.devRef .tc main_arg9) :=
  (keep0 _ main_arg9 (by decide))
theorem val0_v7 : val0 V0 (Proc.devRef .tc main_v7) = atomProd (V0 (Proc.devRef .tc main_arg4)) (V0 (Proc.devRef .tc main_arg6)) (V0 (Proc.devRef .tc main_arg8)) := main0_v7 V0
theorem val0_arg0 : val0 V0 (Proc.devRef .tc main_arg0) = V0 (Proc.devRef .tc main_arg0) :=
  (keep0 _ main_arg0 (by decide))

/-- The contents after group 1. -/
def val1 : Valuation τ sig (Elt F) := after hostOps0_1 (val0 V0)
theorem val1_arg3 : val1 V0 (Proc.devRef .tc main_arg3) = V0 (Proc.devRef .tc main_arg3) :=
  (keep1 _ main_arg3 (by decide)).trans (val0_arg3 V0)
theorem val1_v3 : val1 V0 (Proc.devRef .tc main_v3) = dst V0 :=
  (keep1 _ main_v3 (by decide)).trans (val0_v3 V0)
theorem val1_arg2 : val1 V0 (Proc.devRef .tc main_arg2) = V0 (Proc.devRef .tc main_arg2) :=
  (keep1 _ main_arg2 (by decide)).trans (val0_arg2 V0)
theorem val1_v1 : val1 V0 (Proc.devRef .tc main_v1) = src V0 :=
  (keep1 _ main_v1 (by decide)).trans (val0_v1 V0)
theorem val1_v8 : val1 V0 (Proc.devRef .tc main_v8) = prods V0 := by
  refine (take1 _).trans ?_
  rw [val0_v7 V0, val0_arg0 V0]
  rfl
theorem val1_arg5 : val1 V0 (Proc.devRef .tc main_arg5) = V0 (Proc.devRef .tc main_arg5) :=
  (keep1 _ main_arg5 (by decide)).trans (val0_arg5 V0)
theorem val1_arg6 : val1 V0 (Proc.devRef .tc main_arg6) = V0 (Proc.devRef .tc main_arg6) :=
  (keep1 _ main_arg6 (by decide)).trans (val0_arg6 V0)
theorem val1_arg7 : val1 V0 (Proc.devRef .tc main_arg7) = V0 (Proc.devRef .tc main_arg7) :=
  (keep1 _ main_arg7 (by decide)).trans (val0_arg7 V0)
theorem val1_arg8 : val1 V0 (Proc.devRef .tc main_arg8) = V0 (Proc.devRef .tc main_arg8) :=
  (keep1 _ main_arg8 (by decide)).trans (val0_arg8 V0)
theorem val1_arg9 : val1 V0 (Proc.devRef .tc main_arg9) = V0 (Proc.devRef .tc main_arg9) :=
  (keep1 _ main_arg9 (by decide)).trans (val0_arg9 V0)

/-- The contents after group 2. -/
def val2 : Valuation τ sig (Elt F) := after hostOps0_2 (val1 V0)
theorem val2_arg3 : val2 V0 (Proc.devRef .tc main_arg3) = V0 (Proc.devRef .tc main_arg3) :=
  (keep2 _ main_arg3 (by decide)).trans (val1_arg3 V0)
theorem val2_v3 : val2 V0 (Proc.devRef .tc main_v3) = dst V0 :=
  (keep2 _ main_v3 (by decide)).trans (val1_v3 V0)
theorem val2_v20 : val2 V0 (Proc.devRef .tc main_v20) = bondD V0 := by
  refine (main2_v20 _).trans ?_
  rw [val1_arg5 V0, val1_arg8 V0, val1_arg9 V0]
  rfl
theorem val2_arg2 : val2 V0 (Proc.devRef .tc main_arg2) = V0 (Proc.devRef .tc main_arg2) :=
  (keep2 _ main_arg2 (by decide)).trans (val1_arg2 V0)
theorem val2_v1 : val2 V0 (Proc.devRef .tc main_v1) = src V0 :=
  (keep2 _ main_v1 (by decide)).trans (val1_v1 V0)
theorem val2_v10 : val2 V0 (Proc.devRef .tc main_v10) = rightHalf (prods V0) := by
  refine (main2_v10 _).trans ?_
  rw [val1_v8 V0]
theorem val2_v21 : val2 V0 (Proc.devRef .tc main_v21) = sumU (V0 (Proc.devRef .tc main_arg8)) := by
  refine (main2_v21 _).trans ?_
  rw [val1_arg8 V0]
theorem val2_v15 : val2 V0 (Proc.devRef .tc main_v15) = bondI V0 := by
  refine (main2_v15 _).trans ?_
  rw [val1_arg5 V0, val1_arg6 V0, val1_arg7 V0]
  rfl
theorem val2_v9 : val2 V0 (Proc.devRef .tc main_v9) = leftHalf (prods V0) := by
  refine (main2_v9 _).trans ?_
  rw [val1_v8 V0]

/-- The contents after group 3. -/
def val3 : Valuation τ sig (Elt F) := after hostOps0_3 (val2 V0)
theorem val3_arg3 : val3 V0 (Proc.devRef .tc main_arg3) = V0 (Proc.devRef .tc main_arg3) :=
  (keep3 _ main_arg3 (by decide)).trans (val2_arg3 V0)
theorem val3_v3 : val3 V0 (Proc.devRef .tc main_v3) = dst V0 :=
  (keep3 _ main_v3 (by decide)).trans (val2_v3 V0)
theorem val3_v20 : val3 V0 (Proc.devRef .tc main_v20) = bondD V0 :=
  (keep3 _ main_v20 (by decide)).trans (val2_v20 V0)
theorem val3_arg2 : val3 V0 (Proc.devRef .tc main_arg2) = V0 (Proc.devRef .tc main_arg2) :=
  (keep3 _ main_arg2 (by decide)).trans (val2_arg2 V0)
theorem val3_v1 : val3 V0 (Proc.devRef .tc main_v1) = src V0 :=
  (keep3 _ main_v1 (by decide)).trans (val2_v1 V0)
theorem val3_v10 : val3 V0 (Proc.devRef .tc main_v10) = rightHalf (prods V0) :=
  (keep3 _ main_v10 (by decide)).trans (val2_v10 V0)
theorem val3_v21 : val3 V0 (Proc.devRef .tc main_v21) = sumU (V0 (Proc.devRef .tc main_arg8)) :=
  (keep3 _ main_v21 (by decide)).trans (val2_v21 V0)
theorem val3_v22 : val3 V0 (Proc.devRef .tc main_v22) = takeNodes (leftHalf (prods V0)) (src V0) := by
  refine (take3 _).trans ?_
  rw [val2_v9 V0, val2_v1 V0]
theorem val3_v15 : val3 V0 (Proc.devRef .tc main_v15) = bondI V0 :=
  (keep3 _ main_v15 (by decide)).trans (val2_v15 V0)

/-- The contents after group 4. -/
def val4 : Valuation τ sig (Elt F) := after hostOps0_4 (val3 V0)
theorem val4_arg3 : val4 V0 (Proc.devRef .tc main_arg3) = V0 (Proc.devRef .tc main_arg3) :=
  (keep4 _ main_arg3 (by decide)).trans (val3_arg3 V0)
theorem val4_v3 : val4 V0 (Proc.devRef .tc main_v3) = dst V0 :=
  (keep4 _ main_v3 (by decide)).trans (val3_v3 V0)
theorem val4_v20 : val4 V0 (Proc.devRef .tc main_v20) = bondD V0 :=
  (keep4 _ main_v20 (by decide)).trans (val3_v20 V0)
theorem val4_arg2 : val4 V0 (Proc.devRef .tc main_arg2) = V0 (Proc.devRef .tc main_arg2) :=
  (keep4 _ main_arg2 (by decide)).trans (val3_arg2 V0)
theorem val4_v1 : val4 V0 (Proc.devRef .tc main_v1) = src V0 :=
  (keep4 _ main_v1 (by decide)).trans (val3_v1 V0)
theorem val4_v10 : val4 V0 (Proc.devRef .tc main_v10) = rightHalf (prods V0) :=
  (keep4 _ main_v10 (by decide)).trans (val3_v10 V0)
theorem val4_v21 : val4 V0 (Proc.devRef .tc main_v21) = sumU (V0 (Proc.devRef .tc main_arg8)) :=
  (keep4 _ main_v21 (by decide)).trans (val3_v21 V0)
theorem val4_v22 : val4 V0 (Proc.devRef .tc main_v22) = takeNodes (leftHalf (prods V0)) (src V0) :=
  (keep4 _ main_v22 (by decide)).trans (val3_v22 V0)
theorem val4_v23 : val4 V0 (Proc.devRef .tc main_v23) = takeBonds (bondI V0) (V0 (Proc.devRef .tc main_arg2)) := by
  refine (take4 _).trans ?_
  rw [val3_v15 V0, val3_arg2 V0]

/-- The contents after group 5. -/
def val5 : Valuation τ sig (Elt F) := after hostOps0_5 (val4 V0)
theorem val5_arg3 : val5 V0 (Proc.devRef .tc main_arg3) = V0 (Proc.devRef .tc main_arg3) :=
  (keep5 _ main_arg3 (by decide)).trans (val4_arg3 V0)
theorem val5_v3 : val5 V0 (Proc.devRef .tc main_v3) = dst V0 :=
  (keep5 _ main_v3 (by decide)).trans (val4_v3 V0)
theorem val5_v20 : val5 V0 (Proc.devRef .tc main_v20) = bondD V0 :=
  (keep5 _ main_v20 (by decide)).trans (val4_v20 V0)
theorem val5_arg2 : val5 V0 (Proc.devRef .tc main_arg2) = V0 (Proc.devRef .tc main_arg2) :=
  (keep5 _ main_arg2 (by decide)).trans (val4_arg2 V0)
theorem val5_v1 : val5 V0 (Proc.devRef .tc main_v1) = src V0 :=
  (keep5 _ main_v1 (by decide)).trans (val4_v1 V0)
theorem val5_v10 : val5 V0 (Proc.devRef .tc main_v10) = rightHalf (prods V0) :=
  (keep5 _ main_v10 (by decide)).trans (val4_v10 V0)
theorem val5_v21 : val5 V0 (Proc.devRef .tc main_v21) = sumU (V0 (Proc.devRef .tc main_arg8)) :=
  (keep5 _ main_v21 (by decide)).trans (val4_v21 V0)
theorem val5_v31 : val5 V0 (Proc.devRef .tc main_v31) = nextNodes (rightHalf (prods V0)) (sumU (V0 (Proc.devRef .tc main_arg8))) (sum0 V0) := by
  refine (main5_v31 _).trans ?_
  rw [val4_v10 V0, val4_v21 V0, val4_v3 V0, val4_v22 V0, val4_v23 V0]
  rfl

/-- The contents after group 6. -/
def val6 : Valuation τ sig (Elt F) := after hostOps0_6 (val5 V0)
theorem val6_arg3 : val6 V0 (Proc.devRef .tc main_arg3) = V0 (Proc.devRef .tc main_arg3) :=
  (keep6 _ main_arg3 (by decide)).trans (val5_arg3 V0)
theorem val6_v3 : val6 V0 (Proc.devRef .tc main_v3) = dst V0 :=
  (keep6 _ main_v3 (by decide)).trans (val5_v3 V0)
theorem val6_v20 : val6 V0 (Proc.devRef .tc main_v20) = bondD V0 :=
  (keep6 _ main_v20 (by decide)).trans (val5_v20 V0)
theorem val6_arg2 : val6 V0 (Proc.devRef .tc main_arg2) = V0 (Proc.devRef .tc main_arg2) :=
  (keep6 _ main_arg2 (by decide)).trans (val5_arg2 V0)
theorem val6_v1 : val6 V0 (Proc.devRef .tc main_v1) = src V0 :=
  (keep6 _ main_v1 (by decide)).trans (val5_v1 V0)
theorem val6_v10 : val6 V0 (Proc.devRef .tc main_v10) = rightHalf (prods V0) :=
  (keep6 _ main_v10 (by decide)).trans (val5_v10 V0)
theorem val6_v21 : val6 V0 (Proc.devRef .tc main_v21) = sumU (V0 (Proc.devRef .tc main_arg8)) :=
  (keep6 _ main_v21 (by decide)).trans (val5_v21 V0)
theorem val6_v32 : val6 V0 (Proc.devRef .tc main_v32) = takeNodes (nextNodes (rightHalf (prods V0)) (sumU (V0 (Proc.devRef .tc main_arg8))) (sum0 V0)) (src V0) := by
  refine (take6 _).trans ?_
  rw [val5_v31 V0, val5_v1 V0]

/-- The contents after group 7. -/
def val7 : Valuation τ sig (Elt F) := after hostOps0_7 (val6 V0)
theorem val7_arg3 : val7 V0 (Proc.devRef .tc main_arg3) = V0 (Proc.devRef .tc main_arg3) :=
  (keep7 _ main_arg3 (by decide)).trans (val6_arg3 V0)
theorem val7_v3 : val7 V0 (Proc.devRef .tc main_v3) = dst V0 :=
  (keep7 _ main_v3 (by decide)).trans (val6_v3 V0)
theorem val7_v20 : val7 V0 (Proc.devRef .tc main_v20) = bondD V0 :=
  (keep7 _ main_v20 (by decide)).trans (val6_v20 V0)
theorem val7_arg2 : val7 V0 (Proc.devRef .tc main_arg2) = V0 (Proc.devRef .tc main_arg2) :=
  (keep7 _ main_arg2 (by decide)).trans (val6_arg2 V0)
theorem val7_v1 : val7 V0 (Proc.devRef .tc main_v1) = src V0 :=
  (keep7 _ main_v1 (by decide)).trans (val6_v1 V0)
theorem val7_v10 : val7 V0 (Proc.devRef .tc main_v10) = rightHalf (prods V0) :=
  (keep7 _ main_v10 (by decide)).trans (val6_v10 V0)
theorem val7_v21 : val7 V0 (Proc.devRef .tc main_v21) = sumU (V0 (Proc.devRef .tc main_arg8)) :=
  (keep7 _ main_v21 (by decide)).trans (val6_v21 V0)
theorem val7_v32 : val7 V0 (Proc.devRef .tc main_v32) = takeNodes (nextNodes (rightHalf (prods V0)) (sumU (V0 (Proc.devRef .tc main_arg8))) (sum0 V0)) (src V0) :=
  (keep7 _ main_v32 (by decide)).trans (val6_v32 V0)
theorem val7_v33 : val7 V0 (Proc.devRef .tc main_v33) = takeBonds (bondD V0) (V0 (Proc.devRef .tc main_arg2)) := by
  refine (take7 _).trans ?_
  rw [val6_v20 V0, val6_arg2 V0]

/-- The contents after group 8. -/
def val8 : Valuation τ sig (Elt F) := after hostOps0_8 (val7 V0)
theorem val8_arg3 : val8 V0 (Proc.devRef .tc main_arg3) = V0 (Proc.devRef .tc main_arg3) :=
  (keep8 _ main_arg3 (by decide)).trans (val7_arg3 V0)
theorem val8_v3 : val8 V0 (Proc.devRef .tc main_v3) = dst V0 :=
  (keep8 _ main_v3 (by decide)).trans (val7_v3 V0)
theorem val8_v20 : val8 V0 (Proc.devRef .tc main_v20) = bondD V0 :=
  (keep8 _ main_v20 (by decide)).trans (val7_v20 V0)
theorem val8_arg2 : val8 V0 (Proc.devRef .tc main_arg2) = V0 (Proc.devRef .tc main_arg2) :=
  (keep8 _ main_arg2 (by decide)).trans (val7_arg2 V0)
theorem val8_v1 : val8 V0 (Proc.devRef .tc main_v1) = src V0 :=
  (keep8 _ main_v1 (by decide)).trans (val7_v1 V0)
theorem val8_v10 : val8 V0 (Proc.devRef .tc main_v10) = rightHalf (prods V0) :=
  (keep8 _ main_v10 (by decide)).trans (val7_v10 V0)
theorem val8_v21 : val8 V0 (Proc.devRef .tc main_v21) = sumU (V0 (Proc.devRef .tc main_arg8)) :=
  (keep8 _ main_v21 (by decide)).trans (val7_v21 V0)
theorem val8_v41 : val8 V0 (Proc.devRef .tc main_v41) = nextNodes (rightHalf (prods V0)) (sumU (V0 (Proc.devRef .tc main_arg8))) (step V0 (sum0 V0)) := by
  refine (main8_v41 _).trans ?_
  rw [val7_v10 V0, val7_v21 V0, val7_v3 V0, val7_v32 V0, val7_v33 V0]
  rfl

/-- The contents after group 9. -/
def val9 : Valuation τ sig (Elt F) := after hostOps0_9 (val8 V0)
theorem val9_arg3 : val9 V0 (Proc.devRef .tc main_arg3) = V0 (Proc.devRef .tc main_arg3) :=
  (keep9 _ main_arg3 (by decide)).trans (val8_arg3 V0)
theorem val9_v3 : val9 V0 (Proc.devRef .tc main_v3) = dst V0 :=
  (keep9 _ main_v3 (by decide)).trans (val8_v3 V0)
theorem val9_v20 : val9 V0 (Proc.devRef .tc main_v20) = bondD V0 :=
  (keep9 _ main_v20 (by decide)).trans (val8_v20 V0)
theorem val9_arg2 : val9 V0 (Proc.devRef .tc main_arg2) = V0 (Proc.devRef .tc main_arg2) :=
  (keep9 _ main_arg2 (by decide)).trans (val8_arg2 V0)
theorem val9_v1 : val9 V0 (Proc.devRef .tc main_v1) = src V0 :=
  (keep9 _ main_v1 (by decide)).trans (val8_v1 V0)
theorem val9_v10 : val9 V0 (Proc.devRef .tc main_v10) = rightHalf (prods V0) :=
  (keep9 _ main_v10 (by decide)).trans (val8_v10 V0)
theorem val9_v21 : val9 V0 (Proc.devRef .tc main_v21) = sumU (V0 (Proc.devRef .tc main_arg8)) :=
  (keep9 _ main_v21 (by decide)).trans (val8_v21 V0)
theorem val9_v42 : val9 V0 (Proc.devRef .tc main_v42) = takeNodes (nextNodes (rightHalf (prods V0)) (sumU (V0 (Proc.devRef .tc main_arg8))) (step V0 (sum0 V0))) (src V0) := by
  refine (take9 _).trans ?_
  rw [val8_v41 V0, val8_v1 V0]

/-- The contents after group 10. -/
def val10 : Valuation τ sig (Elt F) := after hostOps0_10 (val9 V0)
theorem val10_arg3 : val10 V0 (Proc.devRef .tc main_arg3) = V0 (Proc.devRef .tc main_arg3) :=
  (keep10 _ main_arg3 (by decide)).trans (val9_arg3 V0)
theorem val10_v3 : val10 V0 (Proc.devRef .tc main_v3) = dst V0 :=
  (keep10 _ main_v3 (by decide)).trans (val9_v3 V0)
theorem val10_v20 : val10 V0 (Proc.devRef .tc main_v20) = bondD V0 :=
  (keep10 _ main_v20 (by decide)).trans (val9_v20 V0)
theorem val10_arg2 : val10 V0 (Proc.devRef .tc main_arg2) = V0 (Proc.devRef .tc main_arg2) :=
  (keep10 _ main_arg2 (by decide)).trans (val9_arg2 V0)
theorem val10_v1 : val10 V0 (Proc.devRef .tc main_v1) = src V0 :=
  (keep10 _ main_v1 (by decide)).trans (val9_v1 V0)
theorem val10_v10 : val10 V0 (Proc.devRef .tc main_v10) = rightHalf (prods V0) :=
  (keep10 _ main_v10 (by decide)).trans (val9_v10 V0)
theorem val10_v21 : val10 V0 (Proc.devRef .tc main_v21) = sumU (V0 (Proc.devRef .tc main_arg8)) :=
  (keep10 _ main_v21 (by decide)).trans (val9_v21 V0)
theorem val10_v42 : val10 V0 (Proc.devRef .tc main_v42) = takeNodes (nextNodes (rightHalf (prods V0)) (sumU (V0 (Proc.devRef .tc main_arg8))) (step V0 (sum0 V0))) (src V0) :=
  (keep10 _ main_v42 (by decide)).trans (val9_v42 V0)
theorem val10_v43 : val10 V0 (Proc.devRef .tc main_v43) = takeBonds (bondD V0) (V0 (Proc.devRef .tc main_arg2)) := by
  refine (take10 _).trans ?_
  rw [val9_v20 V0, val9_arg2 V0]

/-- The contents after group 11. -/
def val11 : Valuation τ sig (Elt F) := after hostOps0_11 (val10 V0)
theorem val11_arg3 : val11 V0 (Proc.devRef .tc main_arg3) = V0 (Proc.devRef .tc main_arg3) :=
  (keep11 _ main_arg3 (by decide)).trans (val10_arg3 V0)
theorem val11_v3 : val11 V0 (Proc.devRef .tc main_v3) = dst V0 :=
  (keep11 _ main_v3 (by decide)).trans (val10_v3 V0)
theorem val11_v20 : val11 V0 (Proc.devRef .tc main_v20) = bondD V0 :=
  (keep11 _ main_v20 (by decide)).trans (val10_v20 V0)
theorem val11_arg2 : val11 V0 (Proc.devRef .tc main_arg2) = V0 (Proc.devRef .tc main_arg2) :=
  (keep11 _ main_arg2 (by decide)).trans (val10_arg2 V0)
theorem val11_v51 : val11 V0 (Proc.devRef .tc main_v51) = nextNodes (rightHalf (prods V0)) (sumU (V0 (Proc.devRef .tc main_arg8))) (step V0 (step V0 (sum0 V0))) := by
  refine (main11_v51 _).trans ?_
  rw [val10_v10 V0, val10_v21 V0, val10_v3 V0, val10_v42 V0, val10_v43 V0]
  rfl
theorem val11_v1 : val11 V0 (Proc.devRef .tc main_v1) = src V0 :=
  (keep11 _ main_v1 (by decide)).trans (val10_v1 V0)

/-- The contents after group 12. -/
def val12 : Valuation τ sig (Elt F) := after hostOps0_12 (val11 V0)
theorem val12_arg3 : val12 V0 (Proc.devRef .tc main_arg3) = V0 (Proc.devRef .tc main_arg3) :=
  (keep12 _ main_arg3 (by decide)).trans (val11_arg3 V0)
theorem val12_v3 : val12 V0 (Proc.devRef .tc main_v3) = dst V0 :=
  (keep12 _ main_v3 (by decide)).trans (val11_v3 V0)
theorem val12_v52 : val12 V0 (Proc.devRef .tc main_v52) = takeNodes (nextNodes (rightHalf (prods V0)) (sumU (V0 (Proc.devRef .tc main_arg8))) (step V0 (step V0 (sum0 V0)))) (src V0) := by
  refine (take12 _).trans ?_
  rw [val11_v51 V0, val11_v1 V0]
theorem val12_v20 : val12 V0 (Proc.devRef .tc main_v20) = bondD V0 :=
  (keep12 _ main_v20 (by decide)).trans (val11_v20 V0)
theorem val12_arg2 : val12 V0 (Proc.devRef .tc main_arg2) = V0 (Proc.devRef .tc main_arg2) :=
  (keep12 _ main_arg2 (by decide)).trans (val11_arg2 V0)

/-- The contents after group 13. -/
def val13 : Valuation τ sig (Elt F) := after hostOps0_13 (val12 V0)
theorem val13_arg3 : val13 V0 (Proc.devRef .tc main_arg3) = V0 (Proc.devRef .tc main_arg3) :=
  (keep13 _ main_arg3 (by decide)).trans (val12_arg3 V0)
theorem val13_v3 : val13 V0 (Proc.devRef .tc main_v3) = dst V0 :=
  (keep13 _ main_v3 (by decide)).trans (val12_v3 V0)
theorem val13_v52 : val13 V0 (Proc.devRef .tc main_v52) = takeNodes (nextNodes (rightHalf (prods V0)) (sumU (V0 (Proc.devRef .tc main_arg8))) (step V0 (step V0 (sum0 V0)))) (src V0) :=
  (keep13 _ main_v52 (by decide)).trans (val12_v52 V0)
theorem val13_v53 : val13 V0 (Proc.devRef .tc main_v53) = takeBonds (bondD V0) (V0 (Proc.devRef .tc main_arg2)) := by
  refine (take13 _).trans ?_
  rw [val12_v20 V0, val12_arg2 V0]

/-- The contents after group 14. -/
def val14 : Valuation τ sig (Elt F) := after hostOps0_14 (val13 V0)
theorem val14_v64 : val14 V0 (Proc.devRef .tc main_v64) = pooled V0 := by
  refine (main14_v64 _).trans ?_
  rw [val13_arg3 V0, val13_v3 V0, val13_v52 V0, val13_v53 V0]
  rfl

/-- The pooled array that the region reads. -/
theorem after_pooled : after (List.flatten [hostOps0, hostOps0_1, hostOps0_2, hostOps0_3, hostOps0_4, hostOps0_5, hostOps0_6,
    hostOps0_7, hostOps0_8, hostOps0_9, hostOps0_10, hostOps0_11, hostOps0_12, hostOps0_13, hostOps0_14]) V0
      (Proc.devRef .tc main_v64) = pooled V0 := by
  simp only [List.flatten_cons, List.flatten_nil, after_append, after_nil]
  exact val14_v64 V0

end Cert.KernelIdeal.Host

end
-- ==== Proof.RStages.lean ====
/- The reference's result as a composition of named stages of its arguments. -/
module

public import proofs.«01_k».proof.Proof.Gen.ReferenceIdeal.Run
public import proofs.«01_k».proof.Proof.Take

@[expose] public section

set_option maxRecDepth 16384

noncomputable section

namespace Cert.ReferenceIdeal.Stages

open Idealize.ShloMosaic Idealize.ShloMosaic.TcCoe Idealize.ShloMosaic.StableHlo
open Idealize.SL.Sem
open Cert.ReferenceIdeal.Gen

variable {F : FTy → Type} [FloatOps F]

/-- Rows of the atom table by atom type. -/
def takeAtoms (x : FVec F S119x64 .f32) (i : IVec S50000 32) : FVec F S50000x64 .f32 :=
  Rows.fillTake 119#32 118#32 (constant S_ .f32 0x7FC00000#32) bcast_S_S50000 bcast_S50000_S50000x1_0 bcast_S_S50000x1
    bcast_S1_S1x1_1 bcast_S1x1_S50000x1_0_1 reducesTo_S50000x1_S50000_d1 h_S_ bcast_S50000_S50000x64_0
    bcast_S_S50000x64 gather_S119x64_S50000x1_S50000x64_1_0_n_n_0_1_164 x i

/-- Rows of a nodes' array by source node. -/
def takeNodes (x : FVec F S50000x64 .f32) (i : IVec S800000 32) : FVec F S800000x64 .f32 :=
  Rows.fillTake 50000#32 49999#32 (constant S_ .f32 0x7FC00000#32) bcast_S_S800000 bcast_S800000_S800000x1_0
    bcast_S_S800000x1 bcast_S1_S1x1_1 bcast_S1x1_S800000x1_0_1 reducesTo_S800000x1_S800000_d1 h_S_
    bcast_S800000_S800000x64_0 bcast_S_S800000x64 gather_S50000x64_S800000x1_S800000x64_1_0_n_n_0_1_164 x i

/-- Rows of the bond table by bond type. -/
def takeBonds (x : FVec F S4x16 .f32) (i : IVec S800000 32) : FVec F S800000x16 .f32 :=
  Rows.fillTake 4#32 3#32 (constant S_ .f32 0x7FC00000#32) bcast_S_S800000 bcast_S800000_S800000x1_0
    bcast_S_S800000x1 bcast_S1_S1x1_1 bcast_S1x1_S800000x1_0_1 reducesTo_S800000x1_S800000_d1 h_S_
    bcast_S800000_S800000x16_0 bcast_S_S800000x16 gather_S4x16_S800000x1_S800000x16_1_0_n_n_0_1_116 x i

/-- The source nodes. -/
def srcOf (e : IVec S2x800000 32) : IVec S800000 32 :=
  shapeCast S800000 (extractStridedSlice S1x800000 ![0, 0] e slices_S2x800000_S1x800000_0_0) shapeCasts_S1x800000_S800000
/-- The target nodes. -/
def dstOf (e : IVec S2x800000 32) : IVec S800000 32 :=
  shapeCast S800000 (extractStridedSlice S1x800000 ![1, 0] e slices_S2x800000_S1x800000_1_0) shapeCasts_S1x800000_S800000

/-- A bias, along every edge. -/
def biasE (b : FVec F S64 .f32) : FVec F S800000x64 .f32 :=
  broadcastInDim S800000x64 ![0, 1] bcast_S1x64_S800000x64_0_1 (broadcastInDim S1x64 ![1] bcast_S64_S1x64_1 b)
/-- The positive part, edge by edge. -/
def reluE (x : FVec F S800000x64 .f32) : FVec F S800000x64 .f32 :=
  maximumf x (broadcastInDim S800000x64 ![] bcast_S_S800000x64 (constant S_ .f32 0x00000000#32))
/-- The first messages, from the edges' atom and bond rows. -/
def initMsgs (a : FVec F S800000x64 .f32) (d : FVec F S800000x16 .f32) (w : FVec F S80x64 .f32) (b : FVec F S64 .f32) :
    FVec F S800000x64 .f32 :=
  reluE (addf (Host.dotGeneral dot_S800000x80_S80x64_S800000x64_1_0_0_1_n_n none
    (concatenate S800000x80 1 [⟨S800000x64, a⟩, ⟨S800000x16, d⟩] concatenates_S800000x64_S800000x16_S800000x80_d1) w) (biasE b))
/-- Later messages, from the edges' atom and bond rows and the rows of the summed messages. -/
def updMsgs (a : FVec F S800000x64 .f32) (d : FVec F S800000x16 .f32) (g : FVec F S800000x64 .f32) (w : FVec F S144x64 .f32)
    (b : FVec F S64 .f32) : FVec F S800000x64 .f32 :=
  reluE (addf (Host.dotGeneral dot_S800000x144_S144x64_S800000x64_1_0_0_1_n_n none
    (concatenate S800000x144 1 [⟨S800000x64, a⟩, ⟨S800000x16, d⟩, ⟨S800000x64, g⟩]
      concatenates_S800000x64_S800000x16_S800000x64_S800000x144_d1) w) (biasE b))
/-- The messages summed at their target nodes. -/
def sumAt (d : IVec S800000 32) (u : FVec F S800000x64 .f32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 d) u
/-- The nodes pooled by molecule. -/
def poolAt (g : IVec S50000 32) (s : FVec F S50000x64 .f32) : FVec F S1024x64 .f32 :=
  Host.scatterAdd scatter_S1024x64_S50000x1_S50000x64_1_0_0_1
    (broadcastInDim S1024x64 ![] bcast_S_S1024x64 (constant S_ .f32 0x00000000#32))
    (broadcastInDim S50000x1 ![0] bcast_S50000_S50000x1_0 g) s
/-- The two layers on the pooled array. -/
def head (p : FVec F S1024x64 .f32) (w1 : FVec F S64x64 .f32) (b1 : FVec F S64 .f32) (w2 : FVec F S64x1 .f32)
    (b2 : FVec F S1 .f32) : FVec F S1024 .f32 :=
  shapeCast S1024 (addf (Host.dotGeneral dot_S1024x64_S64x1_S1024x1_1_0_0_1_n_n none
    (maximumf (addf (Host.dotGeneral dot_S1024x64_S64x64_S1024x64_1_0_0_1_n_n none p w1)
      (broadcastInDim S1024x64 ![0, 1] bcast_S1x64_S1024x64_0_1 (broadcastInDim S1x64 ![1] bcast_S64_S1x64_1 b1)))
      (broadcastInDim S1024x64 ![] bcast_S_S1024x64 (constant S_ .f32 0x00000000#32))) w2)
    (broadcastInDim S1024x1 ![0, 1] bcast_S1x1_S1024x1_0_1 (broadcastInDim S1x1 ![1] bcast_S1_S1x1_1 b2))) shapeCasts_S1024x1_S1024

variable (V0 : Valuation τ sig (Elt F))

def src : IVec S800000 32 := srcOf (V0 (Proc.devRef .tc main_arg1))
def dst : IVec S800000 32 := dstOf (V0 (Proc.devRef .tc main_arg1))
/-- The edges' atom rows. -/
def atomE : FVec F S800000x64 .f32 :=
  takeNodes (takeAtoms (V0 (Proc.devRef .tc main_arg4)) (V0 (Proc.devRef .tc main_arg0))) (src V0)
/-- The edges' bond rows. -/
def bondE : FVec F S800000x16 .f32 := takeBonds (V0 (Proc.devRef .tc main_arg5)) (V0 (Proc.devRef .tc main_arg2))
/-- The first pass's sums. -/
def sum0 : FVec F S50000x64 .f32 :=
  sumAt (dst V0) (initMsgs (atomE V0) (bondE V0) (V0 (Proc.devRef .tc main_arg6)) (V0 (Proc.devRef .tc main_arg7)))
/-- A later pass's sums from the pass before. -/
def step (s : FVec F S50000x64 .f32) : FVec F S50000x64 .f32 :=
  sumAt (dst V0) (updMsgs (atomE V0) (bondE V0) (takeNodes s (src V0)) (V0 (Proc.devRef .tc main_arg8)) (V0 (Proc.devRef .tc main_arg9)))
/-- The result. -/
def result : FVec F S1024 .f32 :=
  head (poolAt (V0 (Proc.devRef .tc main_arg3)) (step V0 (step V0 (step V0 (sum0 V0)))))
    (V0 (Proc.devRef .tc main_arg10)) (V0 (Proc.devRef .tc main_arg11)) (V0 (Proc.devRef .tc main_arg12)) (V0 (Proc.devRef .tc main_arg13))

theorem bondE_eq : Value.res_main_v1 V0 = bondE V0 := rfl
theorem atomE_eq : Value.res_main_v6 V0 = atomE V0 := rfl
theorem later_eq : Value.res_main_v36 V0 = takeNodes (step V0 (step V0 (sum0 V0))) (src V0) := by
  unfold Value.res_main_v36
  rw [bondE_eq, atomE_eq]
  rfl

/-- What the run leaves is the named result. -/
theorem result_eq : Value.val2 V0 (Proc.devRef .tc main_v58) = result V0 := by
  refine (Value.val2_main_v58 V0).trans ?_
  rw [bondE_eq, atomE_eq, later_eq]
  rfl

/-- After every run the result buffer holds the named result of the launch's arguments. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58) = result (launchContents m c) :=
  (θ_run defs _ _).mono
    (fun _ h c => (h c).1.trans ((Value.val2_main_v58 (launchContents m c)).symm.trans (result_eq _))) (Value.run m ρ)

end Cert.ReferenceIdeal.Stages

end
-- ==== Proof.Messages.lean ====
/- The messages of the kernel and of the reference are equal: a row of a product is the product of the row, and a sum over
   joined columns is the sum of the sums over its parts. -/
module

public import proofs.«01_k».proof.Proof.KStages
public import proofs.«01_k».proof.Proof.RStages

@[expose] public section

set_option maxRecDepth 16384

noncomputable section

namespace Cert.Tie

open Idealize.ShloMosaic
open Cert.Rows

/-- The first messages. -/
theorem init_eq (t : FVec Ideal KernelIdeal.S119x64 .f32) (bt : FVec Ideal KernelIdeal.S4x16 .f32)
    (wi : FVec Ideal KernelIdeal.S80x64 .f32) (wu : FVec Ideal KernelIdeal.S144x64 .f32) (b : FVec Ideal KernelIdeal.S64 .f32)
    (x : IVec KernelIdeal.S50000 32) (s a : IVec KernelIdeal.S800000 32) :
    KernelIdeal.Host.msgs (rowsOf (KernelIdeal.Host.leftHalf (rowsOf (KernelIdeal.Host.atomProd t wi wu) x)) s)
        (rowsOf (KernelIdeal.Host.bondProd bt (KernelIdeal.Host.bondW wi) b) a)
      = ReferenceIdeal.Stages.initMsgs (rowsOf (rowsOf t x) s) (rowsOf bt a) wi b := by
  funext j
  pointwise! [rowsOf, KernelIdeal.Host.msgs, KernelIdeal.Host.leftHalf, KernelIdeal.Host.atomProd, KernelIdeal.Host.bondProd,
    KernelIdeal.Host.bondW, ReferenceIdeal.Stages.initMsgs, ReferenceIdeal.Stages.reluE, ReferenceIdeal.Stages.biasE]

/-- A sum over 144 columns, cut after 64 and after 80. -/
theorem sum_144 (f : Fin 144 → EReal) : ∑ k, f k =
    ∑ k : Fin 64, f ⟨k.val, by omega⟩ + (∑ k : Fin 16, f ⟨64 + k.val, by omega⟩ + ∑ k : Fin 64, f ⟨80 + k.val, by omega⟩) := by
  have h1 : ∑ k, f k = ∑ k : Fin 64, f (Fin.castAdd 80 k) + ∑ k : Fin 80, f (Fin.natAdd 64 k) :=
    Fin.sum_univ_add (a := 64) (b := 80) f
  have h2 : ∑ k : Fin 80, f (Fin.natAdd 64 k)
      = ∑ k : Fin 16, f (Fin.natAdd 64 (Fin.castAdd 64 k)) + ∑ k : Fin 64, f (Fin.natAdd 64 (Fin.natAdd 16 k)) :=
    Fin.sum_univ_add (a := 16) (b := 64) fun k => f (Fin.natAdd 64 k)
  rw [h1, h2]
  congr 2

/-- The later messages, of any summed messages `g`. -/
theorem upd_eq (t : FVec Ideal KernelIdeal.S119x64 .f32) (bt : FVec Ideal KernelIdeal.S4x16 .f32)
    (wi : FVec Ideal KernelIdeal.S80x64 .f32) (wu : FVec Ideal KernelIdeal.S144x64 .f32) (b : FVec Ideal KernelIdeal.S64 .f32)
    (x : IVec KernelIdeal.S50000 32) (s a : IVec KernelIdeal.S800000 32) (g : FVec Ideal KernelIdeal.S50000x64 .f32) :
    KernelIdeal.Host.msgs
        (rowsOf (KernelIdeal.Host.nextNodes (KernelIdeal.Host.rightHalf (rowsOf (KernelIdeal.Host.atomProd t wi wu) x))
          (KernelIdeal.Host.sumU wu) g) s)
        (rowsOf (KernelIdeal.Host.bondProd bt (KernelIdeal.Host.bondU wu) b) a)
      = ReferenceIdeal.Stages.updMsgs (rowsOf (rowsOf t x) s) (rowsOf bt a) (rowsOf g s) wu b := by
  funext j
  pointwise! [rowsOf, KernelIdeal.Host.msgs, KernelIdeal.Host.nextNodes, KernelIdeal.Host.rightHalf, KernelIdeal.Host.atomProd,
    KernelIdeal.Host.bondProd, KernelIdeal.Host.bondU, KernelIdeal.Host.sumU, ReferenceIdeal.Stages.updMsgs,
    ReferenceIdeal.Stages.reluE, ReferenceIdeal.Stages.biasE]
  rw [sum_144]
  have h1 : ∀ k : Fin 16, ¬ (64 + k.val < 64) := fun k => by omega
  have h2 : ∀ k : Fin 16, 64 + k.val - 64 = k.val := fun k => by omega
  have h3 : ∀ k : Fin 64, ¬ (80 + k.val < 64) := fun k => by omega
  have h4 : ∀ k : Fin 64, ¬ (80 + k.val - 64 < 16) := fun k => by omega
  have h5 : ∀ k : Fin 64, 80 + k.val - 64 - 16 = k.val := fun k => by omega
  simp only [Fin.is_lt, h1, h2, h3, h4, h5, dite_true, dite_false, Fin.eta]
  ac_nf

end Cert.Tie

end
-- ==== Proof.KValue.lean ====
/- What the kernel's region leaves in the result: the two layers on the pooled array. -/
module

public import proofs.«01_k».proof.Proof.Gen.KernelIdeal.Value
public import proofs.«01_k».proof.Proof.Messages
public import Idealize.ShloMosaic.Lib.Pipeline.ValueKit

@[expose] public section

set_option maxRecDepth 65536

noncomputable section

namespace Cert.KernelIdeal.Region

open Idealize.ShloMosaic Idealize.ShloMosaic.TcCoe
open Cert.KernelIdeal Cert.KernelIdeal.Gen

variable (m : (ℓ : Loc nD τ sig) → Buf (Elt Ideal) ℓ)

/-- Every window's block index at the one point is zero. -/
theorem idx : ∀ t : Fin cfg0.N, win0_0.index t = ![0, 0] ∧ win0_1.index t = ![0, 0] ∧ win0_2.index t = ![0]
    ∧ win0_3.index t = ![0, 0] ∧ win0_4.index t = ![0] ∧ win0_5.index t = ![0] :=
  (by decide +kernel : ∀ t : Fin grid0.N, _)

theorem blk0 (c : Dev nD) : iblk m c 0 t0_0 = V m c main_v64 := by
  blk_ext! [iblk, idx t0_0]
theorem blk1 (c : Dev nD) : iblk m c 1 t0_0 = m ((c : Thread nD τ).loc main_arg10) := by
  refine Eq.trans (b := V m c main_arg10) ?_ (V_main_arg10 m c)
  blk_ext! [iblk, idx t0_0]
theorem blk2 (c : Dev nD) : iblk m c 2 t0_0 = m ((c : Thread nD τ).loc main_arg11) := by
  refine Eq.trans (b := V m c main_arg11) ?_ (V_main_arg11 m c)
  blk_ext! [iblk, idx t0_0]
theorem blk3 (c : Dev nD) : iblk m c 3 t0_0 = m ((c : Thread nD τ).loc main_arg12) := by
  refine Eq.trans (b := V m c main_arg12) ?_ (V_main_arg12 m c)
  blk_ext! [iblk, idx t0_0]
theorem blk4 (c : Dev nD) : iblk m c 4 t0_0 = m ((c : Thread nD τ).loc main_arg13) := by
  refine Eq.trans (b := V m c main_arg13) ?_ (V_main_arg13 m c)
  blk_ext! [iblk, idx t0_0]

/-- The pooled array, as the region finds it. -/
theorem V_pooled (c : Dev nD) : V m c main_v64 = Host.pooled (fun b => m (c, b)) :=
  Host.after_pooled (fun b => m (c, b))

/-- The body's payload is the reference's two layers. -/
theorem pay_eq (p : FVec Ideal S1024x64 .f32) (w1 : FVec Ideal S64x64 .f32) (b1 : FVec Ideal S64 .f32)
    (w2 : FVec Ideal S64x1 .f32) (b2 : FVec Ideal S1 .f32) :
    k0_pay1 (F := Ideal) p w1 b1 w2 b2 = ReferenceIdeal.Stages.head p w1 b1 w2 b2 := by
  funext j
  pointwise! [k0_pay1, ReferenceIdeal.Stages.head]

/-- The result's array after the run. -/
theorem final (c : Dev nD) : (dats m 0 c).arrAt 5 cfg0.N =
    ReferenceIdeal.Stages.head (Host.pooled (fun b => m (c, b))) (m ((c : Thread nD τ).loc main_arg10))
      (m ((c : Thread nD τ).loc main_arg11)) (m ((c : Thread nD τ).loc main_arg12)) (m ((c : Thread nD τ).loc main_arg13)) := by
  refine (dats m 0 c).arrAt_eq_of_after_last 5 t0_0 (by decide +kernel) _ fun j => ?_
  blk_simp
  rw [after0_5]
  frame_out
  rw [blk0, V_pooled, blk1, blk2, blk3, blk4]
  exact congrFun (pay_eq _ _ _ _ _) j

end Cert.KernelIdeal.Region

end
-- ==== Proof.Tie.lean ====
/- With the indices in their ranges, the kernel's stages and the reference's leave the same result. -/
module

public import proofs.«01_k».proof.Proof.Messages

@[expose] public section

set_option maxRecDepth 16384

noncomputable section

namespace Cert.Tie

open Idealize.ShloMosaic
open Cert.Rows

variable {F : FTy → Type} [FloatOps F]

/-! ## The takes are rows -/

theorem k_atoms (x : FVec F KernelIdeal.S119x128 .f32) (i : IVec KernelIdeal.S50000 32)
    (h : ∀ e, 0 ≤ (i e).toInt ∧ (i e).toInt ≤ (118#32 : BitVec 32).toInt) : KernelIdeal.Host.takeAtoms x i = rowsOf x i :=
  fillTake_eq _ _ _ _ _ _ _ _ _ _ _ _ KernelIdeal.Gen.gather_S119x128_S50000x1_S50000x128_1_0_n_n_0_1_1128_wf x i h
theorem k_nodes (x : FVec F KernelIdeal.S50000x64 .f32) (i : IVec KernelIdeal.S800000 32)
    (h : ∀ e, 0 ≤ (i e).toInt ∧ (i e).toInt ≤ (49999#32 : BitVec 32).toInt) : KernelIdeal.Host.takeNodes x i = rowsOf x i :=
  fillTake_eq _ _ _ _ _ _ _ _ _ _ _ _ KernelIdeal.Gen.gather_S50000x64_S800000x1_S800000x64_1_0_n_n_0_1_164_wf x i h
theorem k_bonds (x : FVec F KernelIdeal.S4x64 .f32) (i : IVec KernelIdeal.S800000 32)
    (h : ∀ e, 0 ≤ (i e).toInt ∧ (i e).toInt ≤ (3#32 : BitVec 32).toInt) : KernelIdeal.Host.takeBonds x i = rowsOf x i :=
  fillTake_eq _ _ _ _ _ _ _ _ _ _ _ _ KernelIdeal.Gen.gather_S4x64_S800000x1_S800000x64_1_0_n_n_0_1_164_wf x i h
theorem r_atoms (x : FVec F ReferenceIdeal.S119x64 .f32) (i : IVec ReferenceIdeal.S50000 32)
    (h : ∀ e, 0 ≤ (i e).toInt ∧ (i e).toInt ≤ (118#32 : BitVec 32).toInt) : ReferenceIdeal.Stages.takeAtoms x i = rowsOf x i :=
  fillTake_eq _ _ _ _ _ _ _ _ _ _ _ _ ReferenceIdeal.Gen.gather_S119x64_S50000x1_S50000x64_1_0_n_n_0_1_164_wf x i h
theorem r_nodes (x : FVec F ReferenceIdeal.S50000x64 .f32) (i : IVec ReferenceIdeal.S800000 32)
    (h : ∀ e, 0 ≤ (i e).toInt ∧ (i e).toInt ≤ (49999#32 : BitVec 32).toInt) : ReferenceIdeal.Stages.takeNodes x i = rowsOf x i :=
  fillTake_eq _ _ _ _ _ _ _ _ _ _ _ _ ReferenceIdeal.Gen.gather_S50000x64_S800000x1_S800000x64_1_0_n_n_0_1_164_wf x i h
theorem r_bonds (x : FVec F ReferenceIdeal.S4x16 .f32) (i : IVec ReferenceIdeal.S800000 32)
    (h : ∀ e, 0 ≤ (i e).toInt ∧ (i e).toInt ≤ (3#32 : BitVec 32).toInt) : ReferenceIdeal.Stages.takeBonds x i = rowsOf x i :=
  fillTake_eq _ _ _ _ _ _ _ _ _ _ _ _ ReferenceIdeal.Gen.gather_S4x16_S800000x1_S800000x16_1_0_n_n_0_1_116_wf x i h

/-! ## The stages the two share -/

theorem src_eq (e : IVec KernelIdeal.S2x800000 32) : KernelIdeal.Host.srcOf e = ReferenceIdeal.Stages.srcOf e := rfl
theorem dst_eq (e : IVec KernelIdeal.S2x800000 32) : KernelIdeal.Host.dstOf e = ReferenceIdeal.Stages.dstOf e := rfl
theorem sumAt_eq (d : IVec KernelIdeal.S800000 32) (u : FVec F KernelIdeal.S800000x64 .f32) :
    KernelIdeal.Host.sumAt d u = ReferenceIdeal.Stages.sumAt d u := rfl
theorem poolAt_eq (d : IVec KernelIdeal.S50000 32) (u : FVec F KernelIdeal.S50000x64 .f32) :
    KernelIdeal.Host.poolAt d u = ReferenceIdeal.Stages.poolAt d u := rfl

/-! ## The passes -/

section
variable {x : IVec KernelIdeal.S50000 32} {s d a : IVec KernelIdeal.S800000 32}
  (hx : ∀ e, 0 ≤ (x e).toInt ∧ (x e).toInt ≤ (118#32 : BitVec 32).toInt)
  (hs : ∀ e, 0 ≤ (s e).toInt ∧ (s e).toInt ≤ (49999#32 : BitVec 32).toInt)
  (ha : ∀ e, 0 ≤ (a e).toInt ∧ (a e).toInt ≤ (3#32 : BitVec 32).toInt)
  (t : FVec Ideal KernelIdeal.S119x64 .f32) (bt : FVec Ideal KernelIdeal.S4x16 .f32)
  (wi : FVec Ideal KernelIdeal.S80x64 .f32) (wu : FVec Ideal KernelIdeal.S144x64 .f32) (b : FVec Ideal KernelIdeal.S64 .f32)
include hx hs ha

/-- The first pass. -/
theorem pass0 : KernelIdeal.Host.sumAt d (KernelIdeal.Host.msgs
      (KernelIdeal.Host.takeNodes (KernelIdeal.Host.leftHalf (KernelIdeal.Host.takeAtoms (KernelIdeal.Host.atomProd t wi wu) x)) s)
      (KernelIdeal.Host.takeBonds (KernelIdeal.Host.bondProd bt (KernelIdeal.Host.bondW wi) b) a))
    = ReferenceIdeal.Stages.sumAt d (ReferenceIdeal.Stages.initMsgs
        (ReferenceIdeal.Stages.takeNodes (ReferenceIdeal.Stages.takeAtoms t x) s) (ReferenceIdeal.Stages.takeBonds bt a) wi b) := by
  rw [k_atoms _ _ hx, k_nodes _ _ hs, k_bonds _ _ ha, r_atoms _ _ hx, r_nodes _ _ hs, r_bonds _ _ ha, init_eq, sumAt_eq]

/-- A later pass. -/
theorem pass (g : FVec Ideal KernelIdeal.S50000x64 .f32) : KernelIdeal.Host.sumAt d (KernelIdeal.Host.msgs
      (KernelIdeal.Host.takeNodes (KernelIdeal.Host.nextNodes
        (KernelIdeal.Host.rightHalf (KernelIdeal.Host.takeAtoms (KernelIdeal.Host.atomProd t wi wu) x)) (KernelIdeal.Host.sumU wu) g) s)
      (KernelIdeal.Host.takeBonds (KernelIdeal.Host.bondProd bt (KernelIdeal.Host.bondU wu) b) a))
    = ReferenceIdeal.Stages.sumAt d (ReferenceIdeal.Stages.updMsgs
        (ReferenceIdeal.Stages.takeNodes (ReferenceIdeal.Stages.takeAtoms t x) s) (ReferenceIdeal.Stages.takeBonds bt a)
        (ReferenceIdeal.Stages.takeNodes g s) wu b) := by
  rw [k_atoms _ _ hx, k_nodes _ _ hs, k_bonds _ _ ha, r_atoms _ _ hx, r_nodes _ _ hs, r_nodes _ _ hs, r_bonds _ _ ha, upd_eq, sumAt_eq]
end

/-- The pooled arrays, of two launches with equal arguments. -/
theorem pooled_eq (V : Valuation KernelIdeal.τ KernelIdeal.sig (Elt Ideal)) (V' : Valuation ReferenceIdeal.τ ReferenceIdeal.sig (Elt Ideal))
    (h0 : V' (Proc.devRef .tc ReferenceIdeal.main_arg0) = V (Proc.devRef .tc KernelIdeal.main_arg0))
    (h1 : V' (Proc.devRef .tc ReferenceIdeal.main_arg1) = V (Proc.devRef .tc KernelIdeal.main_arg1))
    (h2 : V' (Proc.devRef .tc ReferenceIdeal.main_arg2) = V (Proc.devRef .tc KernelIdeal.main_arg2))
    (h3 : V' (Proc.devRef .tc ReferenceIdeal.main_arg3) = V (Proc.devRef .tc KernelIdeal.main_arg3))
    (h4 : V' (Proc.devRef .tc ReferenceIdeal.main_arg4) = V (Proc.devRef .tc KernelIdeal.main_arg4))
    (h5 : V' (Proc.devRef .tc ReferenceIdeal.main_arg5) = V (Proc.devRef .tc KernelIdeal.main_arg5))
    (h6 : V' (Proc.devRef .tc ReferenceIdeal.main_arg6) = V (Proc.devRef .tc KernelIdeal.main_arg6))
    (h7 : V' (Proc.devRef .tc ReferenceIdeal.main_arg7) = V (Proc.devRef .tc KernelIdeal.main_arg7))
    (h8 : V' (Proc.devRef .tc ReferenceIdeal.main_arg8) = V (Proc.devRef .tc KernelIdeal.main_arg8))
    (h9 : V' (Proc.devRef .tc ReferenceIdeal.main_arg9) = V (Proc.devRef .tc KernelIdeal.main_arg9))
    (hx : ∀ e, 0 ≤ ((V (Proc.devRef .tc KernelIdeal.main_arg0) : IVec KernelIdeal.S50000 32) e).toInt
      ∧ ((V (Proc.devRef .tc KernelIdeal.main_arg0) : IVec KernelIdeal.S50000 32) e).toInt ≤ (118#32 : BitVec 32).toInt)
    (hs : ∀ e, 0 ≤ (KernelIdeal.Host.src V e).toInt ∧ (KernelIdeal.Host.src V e).toInt ≤ (49999#32 : BitVec 32).toInt)
    (ha : ∀ e, 0 ≤ ((V (Proc.devRef .tc KernelIdeal.main_arg2) : IVec KernelIdeal.S800000 32) e).toInt
      ∧ ((V (Proc.devRef .tc KernelIdeal.main_arg2) : IVec KernelIdeal.S800000 32) e).toInt ≤ (3#32 : BitVec 32).toInt) :
    KernelIdeal.Host.pooled V = ReferenceIdeal.Stages.poolAt (V' (Proc.devRef .tc ReferenceIdeal.main_arg3))
      (ReferenceIdeal.Stages.step V' (ReferenceIdeal.Stages.step V' (ReferenceIdeal.Stages.step V' (ReferenceIdeal.Stages.sum0 V')))) := by
  have e0 : KernelIdeal.Host.sum0 V = ReferenceIdeal.Stages.sum0 V' := by
    unfold ReferenceIdeal.Stages.sum0 ReferenceIdeal.Stages.dst ReferenceIdeal.Stages.atomE ReferenceIdeal.Stages.bondE ReferenceIdeal.Stages.src
    rw [h0, h1, h2, h4, h5, h6, h7]
    exact pass0 hx hs ha _ _ _ (V (Proc.devRef .tc KernelIdeal.main_arg8)) _
  have e1 : ∀ g, KernelIdeal.Host.step V g = ReferenceIdeal.Stages.step V' g := by
    intro g
    unfold ReferenceIdeal.Stages.step ReferenceIdeal.Stages.dst ReferenceIdeal.Stages.atomE ReferenceIdeal.Stages.bondE ReferenceIdeal.Stages.src
    rw [h0, h1, h2, h4, h5, h8, h9]
    exact pass hx hs ha _ _ (V (Proc.devRef .tc KernelIdeal.main_arg6)) _ _ g
  unfold KernelIdeal.Host.pooled
  rw [e0, e1, e1, e1, h3]
  exact poolAt_eq _ _

end Cert.Tie

end
-- ==== Proof.Range.lean ====
/- What the precondition says, index by index. -/
module

public import proofs.«01_k».proof.Pre_in_range
public import Idealize.ShloMosaic.Lib.ReduceAll

@[expose] public section

noncomputable section

namespace Cert.Pre_in_range

open Idealize.ShloMosaic

theorem slices_row : S2x800000.Slices ![0, 0] S1x800000 := by decide
theorem flat_row : S1x800000.ShapeCasts S800000 := by decide
theorem spread_atoms : S_.BroadcastsInDim S50000 (![] : Fin 0 → Fin S50000.rank) := by decide
theorem spread_edges : S_.BroadcastsInDim S800000 (![] : Fin 0 → Fin S800000.rank) := by decide
theorem all_atoms : S50000.ReducesTo [0] S_ := by decide
theorem all_edges : S800000.ReducesTo [0] S_ := by decide
theorem some_S_ : 0 < S_.numel := by decide

theorem facts : Facts where
  slices_S2x800000_S1x800000_0_0 := slices_row
  shapeCasts_S1x800000_S800000 := flat_row
  bcast_S_S50000 := spread_atoms
  reducesTo_S50000_S_d0 := all_atoms
  h_S_ := some_S_
  bcast_S_S800000 := spread_edges
  reducesTo_S800000_S_d0 := all_edges

/-- A word at least zero and under `n`, both as the two comparisons say it. -/
theorem between {w n l : BitVec 32} (h : IntOp.andi (IntOp.cmpi .sge w 0#32) (IntOp.cmpi .slt w n) = 1#1)
    (hn : n.toInt = l.toInt + 1) : 0 ≤ w.toInt ∧ w.toInt ≤ l.toInt := by
  obtain ⟨h0, h1⟩ := IntOp.andi_eq_one.1 h
  have a := IntOp.cmpi_sge.1 h0
  have b := IntOp.cmpi_slt.1 h1
  exact ⟨by simpa using a, by omega⟩

/-- The ranges the precondition states: of the atoms' kinds, of the edges' sources and of the bonds' kinds. -/
theorem ranges [Facts] {F : FTy → Type} [FloatOps F] {x : IVec S50000 32} {e : IVec S2x800000 32} {a : IVec S800000 32}
    {x3 x4 x5 x6 x7 x8 x9 x10 x11 x12 x13}
    (h : fn (F := F) x e a x3 x4 x5 x6 x7 x8 x9 x10 x11 x12 x13 = fun _ => 1#1) :
    (∀ i, 0 ≤ (x i).toInt ∧ (x i).toInt ≤ (118#32 : BitVec 32).toInt)
    ∧ (∀ i, 0 ≤ (shapeCast S800000 (extractStridedSlice S1x800000 ![0, 0] e slices_row) flat_row i).toInt
        ∧ (shapeCast S800000 (extractStridedSlice S1x800000 ![0, 0] e slices_row) flat_row i).toInt ≤ (49999#32 : BitVec 32).toInt)
    ∧ (∀ i, 0 ≤ (a i).toInt ∧ (a i).toInt ≤ (3#32 : BitVec 32).toInt) := by
  have hs : Subsingleton S_.Idx := ⟨fun p q => funext fun k => k.elim0⟩
  have h1 := congrFun h (fun k => k.elim0)
  obtain ⟨h2, h3⟩ := IntOp.andi_eq_one.1 h1
  obtain ⟨h4, h5⟩ := IntOp.andi_eq_one.1 h2
  refine ⟨fun i => ?_, fun i => ?_, fun i => ?_⟩
  · exact between (n := 119#32) (Host.reduce_andi_all _ _ _ _ _ h4 i) (by decide)
  · exact between (n := 50000#32) (Host.reduce_andi_all _ _ _ _ _ h5 i) (by decide)
  · exact between (n := 4#32) (Host.reduce_andi_all _ _ _ _ _ h3 i) (by decide)

end Cert.Pre_in_range

end
-- ==== Proof.Final.lean ====
/- The result of the kernel's run is the result of the reference's. -/
module

public import proofs.«01_k».proof.Proof.KValue
public import proofs.«01_k».proof.Proof.Tie
public import proofs.«01_k».proof.Proof.Range

@[expose] public section

set_option maxRecDepth 16384

noncomputable section

namespace Cert.Tie

open Idealize.ShloMosaic Idealize.ShloMosaic.TcCoe Idealize.ShloMosaic.StableHlo
open Cert.KernelIdeal

/-- The kernel's result array is the reference's named result, of two launches with equal arguments in range. -/
theorem value_eq [Pre_in_range.Facts] (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hp : Pre_in_range.fn (F := Ideal) (m (c.tc.loc main_arg0)) (m (c.tc.loc main_arg1)) (m (c.tc.loc main_arg2))
      (m (c.tc.loc main_arg3)) (m (c.tc.loc main_arg4)) (m (c.tc.loc main_arg5)) (m (c.tc.loc main_arg6))
      (m (c.tc.loc main_arg7)) (m (c.tc.loc main_arg8)) (m (c.tc.loc main_arg9)) (m (c.tc.loc main_arg10))
      (m (c.tc.loc main_arg11)) (m (c.tc.loc main_arg12)) (m (c.tc.loc main_arg13)) = fun _ => 1#1)
    (ha : m' (c.tc.loc ReferenceIdeal.main_arg0) = m (c.tc.loc main_arg0)
      ∧ m' (c.tc.loc ReferenceIdeal.main_arg1) = m (c.tc.loc main_arg1)
      ∧ m' (c.tc.loc ReferenceIdeal.main_arg2) = m (c.tc.loc main_arg2)
      ∧ m' (c.tc.loc ReferenceIdeal.main_arg3) = m (c.tc.loc main_arg3)
      ∧ m' (c.tc.loc ReferenceIdeal.main_arg4) = m (c.tc.loc main_arg4)
      ∧ m' (c.tc.loc ReferenceIdeal.main_arg5) = m (c.tc.loc main_arg5)
      ∧ m' (c.tc.loc ReferenceIdeal.main_arg6) = m (c.tc.loc main_arg6)
      ∧ m' (c.tc.loc ReferenceIdeal.main_arg7) = m (c.tc.loc main_arg7)
      ∧ m' (c.tc.loc ReferenceIdeal.main_arg8) = m (c.tc.loc main_arg8)
      ∧ m' (c.tc.loc ReferenceIdeal.main_arg9) = m (c.tc.loc main_arg9)
      ∧ m' (c.tc.loc ReferenceIdeal.main_arg10) = m (c.tc.loc main_arg10)
      ∧ m' (c.tc.loc ReferenceIdeal.main_arg11) = m (c.tc.loc main_arg11)
      ∧ m' (c.tc.loc ReferenceIdeal.main_arg12) = m (c.tc.loc main_arg12)
      ∧ m' (c.tc.loc ReferenceIdeal.main_arg13) = m (c.tc.loc main_arg13)) :
    ReferenceIdeal.Stages.result (launchContents m' c)
      = (KernelIdeal.Gen.dats m 0 c).arrAt 5 KernelIdeal.cfg0.N := by
  obtain ⟨h0, h1, h2, h3, h4, h5, h6, h7, h8, h9, h10, h11, h12, h13⟩ := ha
  obtain ⟨hx, hs, hb⟩ := Pre_in_range.ranges hp
  rw [Region.final, pooled_eq (fun b => m (c, b)) (launchContents m' c) h0 h1 h2 h3 h4 h5 h6 h7 h8 h9 hx hs hb]
  unfold ReferenceIdeal.Stages.result
  rw [← h10, ← h11, ← h12, ← h13]

end Cert.Tie

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Final
public import Idealize.ShloMosaic.Lib.Quiescent
public import Idealize.ShloMosaic.Adequacy
public import Idealize.ShloMosaic.Init

@[expose] public section

noncomputable section

namespace Cert.Proof

open Idealize.ShloMosaic Idealize.SL.Sem

/-- The reference's frame, from any memory. -/
theorem ref_frame : @quiescent_ReferenceIdeal ReferenceIdeal.Gen.facts := fun m g _ =>
  (θ_run (ReferenceIdeal.defs (F := Ideal)) _ _).mono
    (fun r h => ⟨fun c => (h c).2, sem_eq_zero_of_no_sems (by decide) r.2⟩) (ReferenceIdeal.Value.run m g)

theorem algebraic : @algebraic_KernelIdeal_ReferenceIdeal_pre_in_range KernelIdeal.Gen.facts ReferenceIdeal.Gen.facts Pre_in_range.facts := by
  intro m g m' g' hpre hagree
  refine ⟨fun c => (KernelIdeal.Gen.dats m 0 c).arrAt 5 KernelIdeal.cfg0.N, ?_, ?_⟩
  · exact KernelIdeal.Value.run_blocks m g
  · refine (θ_run (ReferenceIdeal.defs (F := Ideal)) _ _).mono (fun r h c => ?_) (ReferenceIdeal.Value.run m' g')
    refine ⟨(h c).1.trans ?_, (h c).2⟩
    refine ((ReferenceIdeal.Value.val2_main_v58 (StableHlo.launchContents m' c)).symm.trans
      (ReferenceIdeal.Stages.result_eq _)).trans ?_
    exact @Tie.value_eq Pre_in_range.facts m m' c (hpre c) (hagree c)

theorem claim : Cert.Claim :=
  ⟨Kernel.Gen.facts, KernelIdeal.Gen.facts, ReferenceIdeal.Gen.facts, Pre_in_range.facts,
    fun m g _ => Kernel.Gen.frame m g, fun m g _ => KernelIdeal.Gen.frame m g, fun m g _ => KernelIdeal.Gen.frame m g,
    ref_frame, fun m g _ => ref_frame m g ⟨⟩, trivial, algebraic⟩

end Cert.Proof

end
